-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_clip_KernelIdeal [hPre_in_clip_KernelIdeal : Cert.Pre_in_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_clip_ReferenceIdeal [hPre_in_clip_ReferenceIdeal : Cert.Pre_in_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_clip_KernelIdeal [hKernelIdeal : Cert.KernelIdeal.Facts] [hPre_in_clip_KernelIdeal : Cert.Pre_in_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_clip_ReferenceIdeal [hReferenceIdeal : Cert.ReferenceIdeal.Facts] [hPre_in_clip_ReferenceIdeal : Cert.Pre_in_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_clip_KernelIdeal [hKernelIdeal : Cert.KernelIdeal.Facts] [hReferenceIdeal : Cert.ReferenceIdeal.Facts] [hPre_in_clip_KernelIdeal : Cert.Pre_in_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_clip_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_clip_KernelIdeal : Cert.Pre_in_clip_KernelIdeal.Facts) (hPre_in_clip_ReferenceIdeal : Cert.Pre_in_clip_ReferenceIdeal.Facts),
    quiescent_Kernel (hKernel := hKernel)
    ∧ quiescent_KernelIdeal (hKernelIdeal := hKernelIdeal)
    ∧ quiescent_KernelIdeal_pre_in_clip_KernelIdeal (hKernelIdeal := hKernelIdeal) (hPre_in_clip_KernelIdeal := hPre_in_clip_KernelIdeal)
    ∧ quiescent_ReferenceIdeal (hReferenceIdeal := hReferenceIdeal)
    ∧ quiescent_ReferenceIdeal_pre_in_clip_ReferenceIdeal (hReferenceIdeal := hReferenceIdeal) (hPre_in_clip_ReferenceIdeal := hPre_in_clip_ReferenceIdeal)
    ∧ preserves_Kernel_KernelIdeal
    ∧ algebraic_KernelIdeal_ReferenceIdeal_pre_in_clip_KernelIdeal (hKernelIdeal := hKernelIdeal) (hReferenceIdeal := hReferenceIdeal) (hPre_in_clip_KernelIdeal := hPre_in_clip_KernelIdeal)
-- ==== Pre_in_clip_KernelIdeal.lean ====
abbrev S1024x8192 : Shape := ⟨2, ![1024, 8192]⟩
abbrev S8192x4096 : Shape := ⟨2, ![8192, 4096]⟩
abbrev S1024x4096 : Shape := ⟨2, ![1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  dot_S1024x8192_S8192x4096_S1024x4096_1_0_0_1_n_n_wf : DotDims.WF S1024x8192 S8192x4096 S1024x4096 [1] [0] [0] [1] [] []

variable [Facts]

def dot_S1024x8192_S8192x4096_S1024x4096_1_0_0_1_n_n : DotDims S1024x8192 S8192x4096 S1024x4096 where
  lhsContracting := [1]
  rhsContracting := [0]
  lhsNonContracting := [0]
  rhsNonContracting := [1]
  lhsBatch := []
  rhsBatch := []
  wf := dot_S1024x8192_S8192x4096_S1024x4096_1_0_0_1_n_n_wf
def fn {F : FTy → Type} [FloatOps F] (main_arg0 : FVec F S1024x8192 .f32) (main_arg1 : FVec F S8192x4096 .f32) : IVec S_ 1 :=
  let main_v0 : FVec F S1024x4096 .f32 := (fun l r => Host.dotGeneral dot_S1024x8192_S8192x4096_S1024x4096_1_0_0_1_n_n none l r) main_arg0 main_arg1
  let main_v1 : FVec F S1024x4096 .f32 := Host.absf main_v0
  let main_cst : FVec F S_ .f32 := constant S_ .f32 0x42700000#32
  let main_v2 : FVec F S1024x4096 .f32 := broadcastInDim S1024x4096 ![] bcast_S_S1024x4096 main_cst
  let main_v3 : IVec S1024x4096 1 := cmpf .ole main_v1 main_v2
  let main_c : IVec S_ 1 := constantI S_ 1 1#1
  let main_v4 : IVec S_ 1 := (fun x v => Host.reduce IntOp.andi x v reducesTo_S1024x4096_S_d0_1 h_S_) main_v3 main_c
  main_v4
-- ==== Pre_in_clip_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Kernel.lean ====
abbrev S1024x8192 : Shape := ⟨2, ![1024, 8192]⟩
abbrev S8192x4096 : Shape := ⟨2, ![8192, 4096]⟩
abbrev S8192x512 : Shape := ⟨2, ![8192, 512]⟩
abbrev S1024x1024 : Shape := ⟨2, ![1024, 1024]⟩
abbrev S8x1024x512 : Shape := ⟨3, ![8, 1024, 512]⟩
abbrev S1024x512 : Shape := ⟨2, ![1024, 512]⟩
abbrev S2x1024x1024 : Shape := ⟨3, ![2, 1024, 1024]⟩
abbrev S2x1024x512 : Shape := ⟨3, ![2, 1024, 512]⟩
abbrev S_ : Shape := ⟨0, ![]⟩
abbrev S2 : Shape := ⟨1, ![2]⟩
abbrev S8 : Shape := ⟨1, ![8]⟩
abbrev S1 : Shape := ⟨1, ![1]⟩
abbrev S1x1024x1024 : Shape := ⟨3, ![1, 1024, 1024]⟩
abbrev S1x1024x512 : Shape := ⟨3, ![1, 1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x8192, .f32⟩
  | .hbm, ⟨1, _⟩ => ⟨S8192x4096, .f32⟩
  | .hbm, ⟨2, _⟩ => ⟨S8192x512, .f32⟩
  | .local _ .vmem, ⟨0, _⟩ => ⟨S1024x8192, .bf16⟩
  | .local _ .vmem, ⟨1, _⟩ => ⟨S1024x1024, .f32⟩
  | .local _ .vmem, ⟨2, _⟩ => ⟨S8x1024x512, .bf16⟩
  | .local _ .vmem, ⟨3, _⟩ => ⟨S8x1024x512, .bf16⟩
  | .local _ .vmem, ⟨4, _⟩ => ⟨S1024x512, .f32⟩
  | .local _ .vmem, ⟨5, _⟩ => ⟨S2x1024x1024, .f32⟩
  | .local _ .vmem, ⟨6, _⟩ => ⟨S1024x1024, .bf16⟩
  | .local _ .vmem, ⟨7, _⟩ => ⟨S2x1024x512, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_off1 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_27 : BitVec 32 := 0#32
  let v21 : BitVec 1 := Scalar.cmpi .sgt v2 c0_i32_27
  let v22 : BitVec 32 := Scalar.extui v21
  let c0_i32_28 : BitVec 32 := 0#32
  let v23 : BitVec 1 := Scalar.cmpi .slt v2 c0_i32_28
  let v24 : BitVec 32 := Scalar.extui v23
  let v25 : BitVec 32 := Scalar.subi v22 v24
  let c2_i32_26 : BitVec 32 := 2#32
  let c0_i32_29 : BitVec 32 := 0#32
  let v26 : BitVec 1 := Scalar.cmpi .sgt c2_i32_26 c0_i32_29
  let v27 : BitVec 32 := Scalar.extui v26
  let c0_i32_30 : BitVec 32 := 0#32
  let v28 : BitVec 1 := Scalar.cmpi .slt c2_i32_26 c0_i32_30
  let v29 : BitVec 32 := Scalar.extui v28
  let v30 : BitVec 32 := Scalar.subi v27 v29
  let v31 : BitVec 1 := Scalar.cmpi .ne v25 v30
  let v32 : BitVec 32 := Scalar.remsi v2 c2_i32_26
  let c0_i32_31 : BitVec 32 := 0#32
  let v33 : BitVec 1 := Scalar.cmpi .ne v32 c0_i32_31
  let v34 : BitVec 1 := Scalar.andi v31 v33
  let v20 : BitVec 32 := Scalar.divsi v2 c2_i32_26
  let c1_i32_32 : BitVec 32 := 1#32
  let v35 : BitVec 32 := Scalar.subi v20 c1_i32_32
  let v36 : BitVec 32 := Scalar.select v34 v35 v20
  let c0_i32_33 : BitVec 32 := 0#32
  let v37 : BitVec 32 := Scalar.addi v36 c0_i32_33
  let c4_i32_34 : BitVec 32 := 4#32
  let c0_i32_35 : BitVec 32 := 0#32
  let v38 : BitVec 1 := Scalar.cmpi .eq c4_i32_34 c0_i32_35
  let c1_i32_36 : BitVec 32 := 1#32
  let v39 : BitVec 32 := Scalar.select v38 c1_i32_36 c4_i32_34
  let v40 : BitVec 32 := Scalar.remsi v37 v39
  let c0_i32_38 : BitVec 32 := 0#32
  let v42 : BitVec 1 := Scalar.cmpi .slt v40 c0_i32_38
  let c0_i32_39 : BitVec 32 := 0#32
  let v43 : BitVec 1 := Scalar.cmpi .slt v39 c0_i32_39
  let v44 : BitVec 1 := Scalar.xori v42 v43
  let c0_i32_37 : BitVec 32 := 0#32
  let v41 : BitVec 1 := Scalar.cmpi .ne v40 c0_i32_37
  let v45 : BitVec 1 := Scalar.andi v44 v41
  let v46 : BitVec 32 := Scalar.addi v40 v39
  let v47 : BitVec 32 := Scalar.select v45 v46 v40
  let c2_i32_40 : BitVec 32 := 2#32
  let v48 : BitVec 32 := Scalar.muli v47 c2_i32_40
  let c512_i32 : BitVec 32 := 512#32
  let v49 : BitVec 32 := Scalar.muli v48 c512_i32
  ![0, v49.toNat]
@[reducible] def k0_t1_loop : Scf.Loop 32 :=
  let c0_i32_48 : BitVec 32 := 0#32
  let c4_i32_49 : BitVec 32 := 4#32
  let v56 : BitVec 32 := Scalar.addi c0_i32_48 c4_i32_49
  let c1_i32_50 : BitVec 32 := 1#32
  ⟨c0_i32_48, v56, c1_i32_50⟩
def k0_cond1 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let c0_i32_276 : BitVec 32 := 0#32
  let v263 : BitVec 32 := Scalar.addi v262 c0_i32_276
  let c2_i32_277 : BitVec 32 := 2#32
  let v264 : BitVec 32 := Scalar.addi v263 c2_i32_277
  let c1_i32_278 : BitVec 32 := 1#32
  let v265 : BitVec 32 := Scalar.subi v264 c1_i32_278
  let c32_i32 : BitVec 32 := 32#32
  let v266 : BitVec 1 := Scalar.cmpi .slt v265 c32_i32
  let v267 : BitVec 32 := Scalar.extui v266
  let c0_i32_279 : BitVec 32 := 0#32
  let v268 : BitVec 1 := Scalar.cmpi .ne v267 c0_i32_279
  v268

def k0_off2 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let c0_i32_276 : BitVec 32 := 0#32
  let v263 : BitVec 32 := Scalar.addi v262 c0_i32_276
  let c2_i32_957 : BitVec 32 := 2#32
  let v1344 : BitVec 32 := Scalar.addi v263 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off3 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let c0_i32_276 : BitVec 32 := 0#32
  let v263 : BitVec 32 := Scalar.addi v262 c0_i32_276
  let c2_i32_957 : BitVec 32 := 2#32
  let v1344 : BitVec 32 := Scalar.addi v263 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off4 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let c0_i32_276 : BitVec 32 := 0#32
  let v263 : BitVec 32 := Scalar.addi v262 c0_i32_276
  let c2_i32_957 : BitVec 32 := 2#32
  let v1344 : BitVec 32 := Scalar.addi v263 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_off5 (k0_t1 : Fin k0_t1_loop.trips) (c0_i32_276 : BitVec 32) : Fin 1 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let v263 : BitVec 32 := Scalar.addi v262 c0_i32_276
  let c2_i32_316 : BitVec 32 := 2#32
  let c0_i32_317 : BitVec 32 := 0#32
  let v340 : BitVec 1 := Scalar.cmpi .eq c2_i32_316 c0_i32_317
  let c1_i32_318 : BitVec 32 := 1#32
  let v341 : BitVec 32 := Scalar.select v340 c1_i32_318 c2_i32_316
  let v342 : BitVec 32 := Scalar.remsi v263 v341
  let c0_i32_320 : BitVec 32 := 0#32
  let v344 : BitVec 1 := Scalar.cmpi .slt v342 c0_i32_320
  let c0_i32_321 : BitVec 32 := 0#32
  let v345 : BitVec 1 := Scalar.cmpi .slt v341 c0_i32_321
  let v346 : BitVec 1 := Scalar.xori v344 v345
  let c0_i32_319 : BitVec 32 := 0#32
  let v343 : BitVec 1 := Scalar.cmpi .ne v342 c0_i32_319
  let v347 : BitVec 1 := Scalar.andi v346 v343
  let v348 : BitVec 32 := Scalar.addi v342 v341
  let v349 : BitVec 32 := Scalar.select v347 v348 v342
  ![v349.toNat]
def k0_off6 (k0_t1 : Fin k0_t1_loop.trips) (c0_i32_276 : BitVec 32) : Fin 3 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let v263 : BitVec 32 := Scalar.addi v262 c0_i32_276
  let c2_i32_310 : BitVec 32 := 2#32
  let c0_i32_311 : BitVec 32 := 0#32
  let v330 : BitVec 1 := Scalar.cmpi .eq c2_i32_310 c0_i32_311
  let c1_i32_312 : BitVec 32 := 1#32
  let v331 : BitVec 32 := Scalar.select v330 c1_i32_312 c2_i32_310
  let v332 : BitVec 32 := Scalar.remsi v263 v331
  let c0_i32_314 : BitVec 32 := 0#32
  let v334 : BitVec 1 := Scalar.cmpi .slt v332 c0_i32_314
  let c0_i32_315 : BitVec 32 := 0#32
  let v335 : BitVec 1 := Scalar.cmpi .slt v331 c0_i32_315
  let v336 : BitVec 1 := Scalar.xori v334 v335
  let c0_i32_313 : BitVec 32 := 0#32
  let v333 : BitVec 1 := Scalar.cmpi .ne v332 c0_i32_313
  let v337 : BitVec 1 := Scalar.andi v336 v333
  let v338 : BitVec 32 := Scalar.addi v332 v331
  let v339 : BitVec 32 := Scalar.select v337 v338 v332
  let c0_i32_322 : BitVec 32 := 0#32
  let c0_i32_323 : BitVec 32 := 0#32
  ![v339.toNat, 0, 0]
def k0_off7 (d0 : Dev nD) (k0_t1 : Fin k0_t1_loop.trips) (c0_i32_276 : BitVec 32) : Fin 2 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let v263 : BitVec 32 := Scalar.addi v262 c0_i32_276
  let c8_i32_282 : BitVec 32 := 8#32
  let c0_i32_289 : BitVec 32 := 0#32
  let v289 : BitVec 1 := Scalar.cmpi .eq c8_i32_282 c0_i32_289
  let c1_i32_290 : BitVec 32 := 1#32
  let v290 : BitVec 32 := Scalar.select v289 c1_i32_290 c8_i32_282
  let v291 : BitVec 32 := Scalar.remsi v263 v290
  let c0_i32_292 : BitVec 32 := 0#32
  let v293 : BitVec 1 := Scalar.cmpi .slt v291 c0_i32_292
  let c0_i32_293 : BitVec 32 := 0#32
  let v294 : BitVec 1 := Scalar.cmpi .slt v290 c0_i32_293
  let v295 : BitVec 1 := Scalar.xori v293 v294
  let c0_i32_291 : BitVec 32 := 0#32
  let v292 : BitVec 1 := Scalar.cmpi .ne v291 c0_i32_291
  let v296 : BitVec 1 := Scalar.andi v295 v292
  let v297 : BitVec 32 := Scalar.addi v291 v290
  let v298 : BitVec 32 := Scalar.select v296 v297 v291
  let c1024_i32_307 : BitVec 32 := 1024#32
  let v327 : BitVec 32 := Scalar.muli v298 c1024_i32_307
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_295 : BitVec 32 := 0#32
  let v300 : BitVec 1 := Scalar.cmpi .sgt v2 c0_i32_295
  let v301 : BitVec 32 := Scalar.extui v300
  let c0_i32_296 : BitVec 32 := 0#32
  let v302 : BitVec 1 := Scalar.cmpi .slt v2 c0_i32_296
  let v303 : BitVec 32 := Scalar.extui v302
  let v304 : BitVec 32 := Scalar.subi v301 v303
  let c2_i32_294 : BitVec 32 := 2#32
  let c0_i32_297 : BitVec 32 := 0#32
  let v305 : BitVec 1 := Scalar.cmpi .sgt c2_i32_294 c0_i32_297
  let v306 : BitVec 32 := Scalar.extui v305
  let c0_i32_298 : BitVec 32 := 0#32
  let v307 : BitVec 1 := Scalar.cmpi .slt c2_i32_294 c0_i32_298
  let v308 : BitVec 32 := Scalar.extui v307
  let v309 : BitVec 32 := Scalar.subi v306 v308
  let v310 : BitVec 1 := Scalar.cmpi .ne v304 v309
  let v311 : BitVec 32 := Scalar.remsi v2 c2_i32_294
  let c0_i32_299 : BitVec 32 := 0#32
  let v312 : BitVec 1 := Scalar.cmpi .ne v311 c0_i32_299
  let v313 : BitVec 1 := Scalar.andi v310 v312
  let v299 : BitVec 32 := Scalar.divsi v2 c2_i32_294
  let c1_i32_300 : BitVec 32 := 1#32
  let v314 : BitVec 32 := Scalar.subi v299 c1_i32_300
  let v315 : BitVec 32 := Scalar.select v313 v314 v299
  let c0_i32_283 : BitVec 32 := 0#32
  let v273 : BitVec 1 := Scalar.cmpi .sgt v263 c0_i32_283
  let v274 : BitVec 32 := Scalar.extui v273
  let c0_i32_284 : BitVec 32 := 0#32
  let v275 : BitVec 1 := Scalar.cmpi .slt v263 c0_i32_284
  let v276 : BitVec 32 := Scalar.extui v275
  let v277 : BitVec 32 := Scalar.subi v274 v276
  let c0_i32_285 : BitVec 32 := 0#32
  let v278 : BitVec 1 := Scalar.cmpi .sgt c8_i32_282 c0_i32_285
  let v279 : BitVec 32 := Scalar.extui v278
  let c0_i32_286 : BitVec 32 := 0#32
  let v280 : BitVec 1 := Scalar.cmpi .slt c8_i32_282 c0_i32_286
  let v281 : BitVec 32 := Scalar.extui v280
  let v282 : BitVec 32 := Scalar.subi v279 v281
  let v283 : BitVec 1 := Scalar.cmpi .ne v277 v282
  let v284 : BitVec 32 := Scalar.remsi v263 c8_i32_282
  let c0_i32_287 : BitVec 32 := 0#32
  let v285 : BitVec 1 := Scalar.cmpi .ne v284 c0_i32_287
  let v286 : BitVec 1 := Scalar.andi v283 v285
  let v272 : BitVec 32 := Scalar.divsi v263 c8_i32_282
  let c1_i32_288 : BitVec 32 := 1#32
  let v287 : BitVec 32 := Scalar.subi v272 c1_i32_288
  let v288 : BitVec 32 := Scalar.select v286 v287 v272
  let v316 : BitVec 32 := Scalar.addi v315 v288
  let c4_i32_301 : BitVec 32 := 4#32
  let c0_i32_302 : BitVec 32 := 0#32
  let v317 : BitVec 1 := Scalar.cmpi .eq c4_i32_301 c0_i32_302
  let c1_i32_303 : BitVec 32 := 1#32
  let v318 : BitVec 32 := Scalar.select v317 c1_i32_303 c4_i32_301
  let v319 : BitVec 32 := Scalar.remsi v316 v318
  let c0_i32_305 : BitVec 32 := 0#32
  let v321 : BitVec 1 := Scalar.cmpi .slt v319 c0_i32_305
  let c0_i32_306 : BitVec 32 := 0#32
  let v322 : BitVec 1 := Scalar.cmpi .slt v318 c0_i32_306
  let v323 : BitVec 1 := Scalar.xori v321 v322
  let c0_i32_304 : BitVec 32 := 0#32
  let v320 : BitVec 1 := Scalar.cmpi .ne v319 c0_i32_304
  let v324 : BitVec 1 := Scalar.andi v323 v320
  let v325 : BitVec 32 := Scalar.addi v319 v318
  let v326 : BitVec 32 := Scalar.select v324 v325 v319
  let c2_i32_308 : BitVec 32 := 2#32
  let v328 : BitVec 32 := Scalar.muli v326 c2_i32_308
  let c512_i32_309 : BitVec 32 := 512#32
  let v329 : BitVec 32 := Scalar.muli v328 c512_i32_309
  ![v327.toNat, v329.toNat]
def k0_off8 (k0_t1 : Fin k0_t1_loop.trips) (c0_i32_276 : BitVec 32) : Fin 3 → Nat :=
  let c0_i32_48 : BitVec 32 := 0#32
  let c1_i32_50 : BitVec 32 := 1#32
  let arg16 : BitVec 32 := Scf.iv c0_i32_48 c1_i32_50 k0_t1
  let c8_i32_275 : BitVec 32 := 8#32
  let v262 : BitVec 32 := Scalar.muli arg16 c8_i32_275
  let v263 : BitVec 32 := Scalar.addi v262 c0_i32_276
  let c2_i32_324 : BitVec 32 := 2#32
  let c0_i32_325 : BitVec 32 := 0#32
  let v355 : BitVec 1 := Scalar.cmpi .eq c2_i32_324 c0_i32_325
  let c1_i32_326 : BitVec 32 := 1#32
  let v356 : BitVec 32 := Scalar.select v355 c1_i32_326 c2_i32_324
  let v357 : BitVec 32 := Scalar.remsi v263 v356
  let c0_i32_328 : BitVec 32 := 0#32
  let v359 : BitVec 1 := Scalar.cmpi .slt v357 c0_i32_328
  let c0_i32_329 : BitVec 32 := 0#32
  let v360 : BitVec 1 := Scalar.cmpi .slt v356 c0_i32_329
  let v361 : BitVec 1 := Scalar.xori v359 v360
  let c0_i32_327 : BitVec 32 := 0#32
  let v358 : BitVec 1 := Scalar.cmpi .ne v357 c0_i32_327
  let v362 : BitVec 1 := Scalar.andi v361 v358
  let v363 : BitVec 32 := Scalar.addi v357 v356
  let v364 : BitVec 32 := Scalar.select v362 v363 v357
  let v365 : Index := Scalar.indexCast v364
  let c0_330 : Index := 0#32
  let c0_331 : Index := 0#32
  ![v365.toNat, 0, 0]
def k0_cond3 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_348 : BitVec 32 := 8#32
  let v384 : BitVec 32 := Scalar.muli arg16 c8_i32_348
  let c1_i32_349 : BitVec 32 := 1#32
  let v385 : BitVec 32 := Scalar.addi v384 c1_i32_349
  let c2_i32_350 : BitVec 32 := 2#32
  let v386 : BitVec 32 := Scalar.addi v385 c2_i32_350
  let c1_i32_351 : BitVec 32 := 1#32
  let v387 : BitVec 32 := Scalar.subi v386 c1_i32_351
  let c32_i32_352 : BitVec 32 := 32#32
  let v388 : BitVec 1 := Scalar.cmpi .slt v387 c32_i32_352
  let v389 : BitVec 32 := Scalar.extui v388
  let c0_i32_353 : BitVec 32 := 0#32
  let v390 : BitVec 1 := Scalar.cmpi .ne v389 c0_i32_353
  v390

def k0_off9 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_348 : BitVec 32 := 8#32
  let v384 : BitVec 32 := Scalar.muli arg16 c8_i32_348
  let c1_i32_349 : BitVec 32 := 1#32
  let v385 : BitVec 32 := Scalar.addi v384 c1_i32_349
  let c2_i32_957 : BitVec 32 := 2#32
  let v1344 : BitVec 32 := Scalar.addi v385 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off10 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_348 : BitVec 32 := 8#32
  let v384 : BitVec 32 := Scalar.muli arg16 c8_i32_348
  let c1_i32_349 : BitVec 32 := 1#32
  let v385 : BitVec 32 := Scalar.addi v384 c1_i32_349
  let c2_i32_957 : BitVec 32 := 2#32
  let v1344 : BitVec 32 := Scalar.addi v385 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off11 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_348 : BitVec 32 := 8#32
  let v384 : BitVec 32 := Scalar.muli arg16 c8_i32_348
  let c1_i32_349 : BitVec 32 := 1#32
  let v385 : BitVec 32 := Scalar.addi v384 c1_i32_349
  let c2_i32_957 : BitVec 32 := 2#32
  let v1344 : BitVec 32 := Scalar.addi v385 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_cond5 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_429 : BitVec 32 := 8#32
  let v512 : BitVec 32 := Scalar.muli arg16 c8_i32_429
  let c2_i32_430 : BitVec 32 := 2#32
  let v513 : BitVec 32 := Scalar.addi v512 c2_i32_430
  let c2_i32_431 : BitVec 32 := 2#32
  let v514 : BitVec 32 := Scalar.addi v513 c2_i32_431
  let c1_i32_432 : BitVec 32 := 1#32
  let v515 : BitVec 32 := Scalar.subi v514 c1_i32_432
  let c32_i32_433 : BitVec 32 := 32#32
  let v516 : BitVec 1 := Scalar.cmpi .slt v515 c32_i32_433
  let v517 : BitVec 32 := Scalar.extui v516
  let c0_i32_434 : BitVec 32 := 0#32
  let v518 : BitVec 1 := Scalar.cmpi .ne v517 c0_i32_434
  v518

def k0_off12 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_429 : BitVec 32 := 8#32
  let v512 : BitVec 32 := Scalar.muli arg16 c8_i32_429
  let c2_i32_430 : BitVec 32 := 2#32
  let v513 : BitVec 32 := Scalar.addi v512 c2_i32_430
  let c2_i32_957 : BitVec 32 := 2#32
  let v1344 : BitVec 32 := Scalar.addi v513 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off13 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_429 : BitVec 32 := 8#32
  let v512 : BitVec 32 := Scalar.muli arg16 c8_i32_429
  let c2_i32_430 : BitVec 32 := 2#32
  let v513 : BitVec 32 := Scalar.addi v512 c2_i32_430
  let c2_i32_957 : BitVec 32 := 2#32
  let v1344 : BitVec 32 := Scalar.addi v513 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off14 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_429 : BitVec 32 := 8#32
  let v512 : BitVec 32 := Scalar.muli arg16 c8_i32_429
  let c2_i32_430 : BitVec 32 := 2#32
  let v513 : BitVec 32 := Scalar.addi v512 c2_i32_430
  let c2_i32_957 : BitVec 32 := 2#32
  let v1344 : BitVec 32 := Scalar.addi v513 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_cond7 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_510 : BitVec 32 := 8#32
  let v640 : BitVec 32 := Scalar.muli arg16 c8_i32_510
  let c3_i32_511 : BitVec 32 := 3#32
  let v641 : BitVec 32 := Scalar.addi v640 c3_i32_511
  let c2_i32_512 : BitVec 32 := 2#32
  let v642 : BitVec 32 := Scalar.addi v641 c2_i32_512
  let c1_i32_513 : BitVec 32 := 1#32
  let v643 : BitVec 32 := Scalar.subi v642 c1_i32_513
  let c32_i32_514 : BitVec 32 := 32#32
  let v644 : BitVec 1 := Scalar.cmpi .slt v643 c32_i32_514
  let v645 : BitVec 32 := Scalar.extui v644
  let c0_i32_515 : BitVec 32 := 0#32
  let v646 : BitVec 1 := Scalar.cmpi .ne v645 c0_i32_515
  v646

def k0_off15 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_510 : BitVec 32 := 8#32
  let v640 : BitVec 32 := Scalar.muli arg16 c8_i32_510
  let c3_i32_511 : BitVec 32 := 3#32
  let v641 : BitVec 32 := Scalar.addi v640 c3_i32_511
  let c2_i32_957 : BitVec 32 := 2#32
  let v1344 : BitVec 32 := Scalar.addi v641 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off16 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_510 : BitVec 32 := 8#32
  let v640 : BitVec 32 := Scalar.muli arg16 c8_i32_510
  let c3_i32_511 : BitVec 32 := 3#32
  let v641 : BitVec 32 := Scalar.addi v640 c3_i32_511
  let c2_i32_957 : BitVec 32 := 2#32
  let v1344 : BitVec 32 := Scalar.addi v641 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off17 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_510 : BitVec 32 := 8#32
  let v640 : BitVec 32 := Scalar.muli arg16 c8_i32_510
  let c3_i32_511 : BitVec 32 := 3#32
  let v641 : BitVec 32 := Scalar.addi v640 c3_i32_511
  let c2_i32_957 : BitVec 32 := 2#32
  let v1344 : BitVec 32 := Scalar.addi v641 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_cond9 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_591 : BitVec 32 := 8#32
  let v768 : BitVec 32 := Scalar.muli arg16 c8_i32_591
  let c4_i32_592 : BitVec 32 := 4#32
  let v769 : BitVec 32 := Scalar.addi v768 c4_i32_592
  let c2_i32_593 : BitVec 32 := 2#32
  let v770 : BitVec 32 := Scalar.addi v769 c2_i32_593
  let c1_i32_594 : BitVec 32 := 1#32
  let v771 : BitVec 32 := Scalar.subi v770 c1_i32_594
  let c32_i32_595 : BitVec 32 := 32#32
  let v772 : BitVec 1 := Scalar.cmpi .slt v771 c32_i32_595
  let v773 : BitVec 32 := Scalar.extui v772
  let c0_i32_596 : BitVec 32 := 0#32
  let v774 : BitVec 1 := Scalar.cmpi .ne v773 c0_i32_596
  v774

def k0_off18 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_591 : BitVec 32 := 8#32
  let v768 : BitVec 32 := Scalar.muli arg16 c8_i32_591
  let c4_i32_592 : BitVec 32 := 4#32
  let v769 : BitVec 32 := Scalar.addi v768 c4_i32_592
  let c2_i32_957 : BitVec 32 := 2#32
  let v1344 : BitVec 32 := Scalar.addi v769 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off19 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_591 : BitVec 32 := 8#32
  let v768 : BitVec 32 := Scalar.muli arg16 c8_i32_591
  let c4_i32_592 : BitVec 32 := 4#32
  let v769 : BitVec 32 := Scalar.addi v768 c4_i32_592
  let c2_i32_957 : BitVec 32 := 2#32
  let v1344 : BitVec 32 := Scalar.addi v769 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off20 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_591 : BitVec 32 := 8#32
  let v768 : BitVec 32 := Scalar.muli arg16 c8_i32_591
  let c4_i32_592 : BitVec 32 := 4#32
  let v769 : BitVec 32 := Scalar.addi v768 c4_i32_592
  let c2_i32_957 : BitVec 32 := 2#32
  let v1344 : BitVec 32 := Scalar.addi v769 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_cond11 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_672 : BitVec 32 := 8#32
  let v896 : BitVec 32 := Scalar.muli arg16 c8_i32_672
  let c5_i32_673 : BitVec 32 := 5#32
  let v897 : BitVec 32 := Scalar.addi v896 c5_i32_673
  let c2_i32_674 : BitVec 32 := 2#32
  let v898 : BitVec 32 := Scalar.addi v897 c2_i32_674
  let c1_i32_675 : BitVec 32 := 1#32
  let v899 : BitVec 32 := Scalar.subi v898 c1_i32_675
  let c32_i32_676 : BitVec 32 := 32#32
  let v900 : BitVec 1 := Scalar.cmpi .slt v899 c32_i32_676
  let v901 : BitVec 32 := Scalar.extui v900
  let c0_i32_677 : BitVec 32 := 0#32
  let v902 : BitVec 1 := Scalar.cmpi .ne v901 c0_i32_677
  v902

def k0_off21 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_672 : BitVec 32 := 8#32
  let v896 : BitVec 32 := Scalar.muli arg16 c8_i32_672
  let c5_i32_673 : BitVec 32 := 5#32
  let v897 : BitVec 32 := Scalar.addi v896 c5_i32_673
  let c2_i32_957 : BitVec 32 := 2#32
  let v1344 : BitVec 32 := Scalar.addi v897 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off22 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_672 : BitVec 32 := 8#32
  let v896 : BitVec 32 := Scalar.muli arg16 c8_i32_672
  let c5_i32_673 : BitVec 32 := 5#32
  let v897 : BitVec 32 := Scalar.addi v896 c5_i32_673
  let c2_i32_957 : BitVec 32 := 2#32
  let v1344 : BitVec 32 := Scalar.addi v897 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off23 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_672 : BitVec 32 := 8#32
  let v896 : BitVec 32 := Scalar.muli arg16 c8_i32_672
  let c5_i32_673 : BitVec 32 := 5#32
  let v897 : BitVec 32 := Scalar.addi v896 c5_i32_673
  let c2_i32_957 : BitVec 32 := 2#32
  let v1344 : BitVec 32 := Scalar.addi v897 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_cond13 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_753 : BitVec 32 := 8#32
  let v1024 : BitVec 32 := Scalar.muli arg16 c8_i32_753
  let c6_i32_754 : BitVec 32 := 6#32
  let v1025 : BitVec 32 := Scalar.addi v1024 c6_i32_754
  let c2_i32_755 : BitVec 32 := 2#32
  let v1026 : BitVec 32 := Scalar.addi v1025 c2_i32_755
  let c1_i32_756 : BitVec 32 := 1#32
  let v1027 : BitVec 32 := Scalar.subi v1026 c1_i32_756
  let c32_i32_757 : BitVec 32 := 32#32
  let v1028 : BitVec 1 := Scalar.cmpi .slt v1027 c32_i32_757
  let v1029 : BitVec 32 := Scalar.extui v1028
  let c0_i32_758 : BitVec 32 := 0#32
  let v1030 : BitVec 1 := Scalar.cmpi .ne v1029 c0_i32_758
  v1030

def k0_off24 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_753 : BitVec 32 := 8#32
  let v1024 : BitVec 32 := Scalar.muli arg16 c8_i32_753
  let c6_i32_754 : BitVec 32 := 6#32
  let v1025 : BitVec 32 := Scalar.addi v1024 c6_i32_754
  let c2_i32_957 : BitVec 32 := 2#32
  let v1344 : BitVec 32 := Scalar.addi v1025 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off25 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_753 : BitVec 32 := 8#32
  let v1024 : BitVec 32 := Scalar.muli arg16 c8_i32_753
  let c6_i32_754 : BitVec 32 := 6#32
  let v1025 : BitVec 32 := Scalar.addi v1024 c6_i32_754
  let c2_i32_957 : BitVec 32 := 2#32
  let v1344 : BitVec 32 := Scalar.addi v1025 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off26 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_753 : BitVec 32 := 8#32
  let v1024 : BitVec 32 := Scalar.muli arg16 c8_i32_753
  let c6_i32_754 : BitVec 32 := 6#32
  let v1025 : BitVec 32 := Scalar.addi v1024 c6_i32_754
  let c2_i32_957 : BitVec 32 := 2#32
  let v1344 : BitVec 32 := Scalar.addi v1025 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_cond15 (k0_t1 : Fin k0_t1_loop.trips) : BitVec 1 :=
  let c0_i32_48 : BitVec 32 := 0#32
  let c1_i32_50 : BitVec 32 := 1#32
  let arg16 : BitVec 32 := Scf.iv c0_i32_48 c1_i32_50 k0_t1
  let c8_i32_834 : BitVec 32 := 8#32
  let v1152 : BitVec 32 := Scalar.muli arg16 c8_i32_834
  let c7_i32_835 : BitVec 32 := 7#32
  let v1153 : BitVec 32 := Scalar.addi v1152 c7_i32_835
  let c2_i32_836 : BitVec 32 := 2#32
  let v1154 : BitVec 32 := Scalar.addi v1153 c2_i32_836
  let c1_i32_837 : BitVec 32 := 1#32
  let v1155 : BitVec 32 := Scalar.subi v1154 c1_i32_837
  let c32_i32_838 : BitVec 32 := 32#32
  let v1156 : BitVec 1 := Scalar.cmpi .slt v1155 c32_i32_838
  let v1157 : BitVec 32 := Scalar.extui v1156
  let c0_i32_839 : BitVec 32 := 0#32
  let v1158 : BitVec 1 := Scalar.cmpi .ne v1157 c0_i32_839
  v1158

def k0_off27 (k0_t1 : Fin k0_t1_loop.trips) : Fin 1 → Nat :=
  let c0_i32_48 : BitVec 32 := 0#32
  let c1_i32_50 : BitVec 32 := 1#32
  let arg16 : BitVec 32 := Scf.iv c0_i32_48 c1_i32_50 k0_t1
  let c8_i32_834 : BitVec 32 := 8#32
  let v1152 : BitVec 32 := Scalar.muli arg16 c8_i32_834
  let c7_i32_835 : BitVec 32 := 7#32
  let v1153 : BitVec 32 := Scalar.addi v1152 c7_i32_835
  let c2_i32_957 : BitVec 32 := 2#32
  let v1344 : BitVec 32 := Scalar.addi v1153 c2_i32_957
  let c1_i32_958 : BitVec 32 := 1#32
  let v1345 : BitVec 32 := Scalar.subi v1344 c1_i32_958
  let c2_i32_993 : BitVec 32 := 2#32
  let c0_i32_994 : BitVec 32 := 0#32
  let v1414 : BitVec 1 := Scalar.cmpi .eq c2_i32_993 c0_i32_994
  let c1_i32_995 : BitVec 32 := 1#32
  let v1415 : BitVec 32 := Scalar.select v1414 c1_i32_995 c2_i32_993
  let v1416 : BitVec 32 := Scalar.remsi v1345 v1415
  let c0_i32_997 : BitVec 32 := 0#32
  let v1418 : BitVec 1 := Scalar.cmpi .slt v1416 c0_i32_997
  let c0_i32_998 : BitVec 32 := 0#32
  let v1419 : BitVec 1 := Scalar.cmpi .slt v1415 c0_i32_998
  let v1420 : BitVec 1 := Scalar.xori v1418 v1419
  let c0_i32_996 : BitVec 32 := 0#32
  let v1417 : BitVec 1 := Scalar.cmpi .ne v1416 c0_i32_996
  let v1421 : BitVec 1 := Scalar.andi v1420 v1417
  let v1422 : BitVec 32 := Scalar.addi v1416 v1415
  let v1423 : BitVec 32 := Scalar.select v1421 v1422 v1416
  ![v1423.toNat]
def k0_off28 (k0_t1 : Fin k0_t1_loop.trips) : Fin 3 → Nat :=
  let c0_i32_48 : BitVec 32 := 0#32
  let c1_i32_50 : BitVec 32 := 1#32
  let arg16 : BitVec 32 := Scf.iv c0_i32_48 c1_i32_50 k0_t1
  let c8_i32_834 : BitVec 32 := 8#32
  let v1152 : BitVec 32 := Scalar.muli arg16 c8_i32_834
  let c7_i32_835 : BitVec 32 := 7#32
  let v1153 : BitVec 32 := Scalar.addi v1152 c7_i32_835
  let c2_i32_957 : BitVec 32 := 2#32
  let v1344 : BitVec 32 := Scalar.addi v1153 c2_i32_957
  let c1_i32_958 : BitVec 32 := 1#32
  let v1345 : BitVec 32 := Scalar.subi v1344 c1_i32_958
  let c2_i32_987 : BitVec 32 := 2#32
  let c0_i32_988 : BitVec 32 := 0#32
  let v1404 : BitVec 1 := Scalar.cmpi .eq c2_i32_987 c0_i32_988
  let c1_i32_989 : BitVec 32 := 1#32
  let v1405 : BitVec 32 := Scalar.select v1404 c1_i32_989 c2_i32_987
  let v1406 : BitVec 32 := Scalar.remsi v1345 v1405
  let c0_i32_991 : BitVec 32 := 0#32
  let v1408 : BitVec 1 := Scalar.cmpi .slt v1406 c0_i32_991
  let c0_i32_992 : BitVec 32 := 0#32
  let v1409 : BitVec 1 := Scalar.cmpi .slt v1405 c0_i32_992
  let v1410 : BitVec 1 := Scalar.xori v1408 v1409
  let c0_i32_990 : BitVec 32 := 0#32
  let v1407 : BitVec 1 := Scalar.cmpi .ne v1406 c0_i32_990
  let v1411 : BitVec 1 := Scalar.andi v1410 v1407
  let v1412 : BitVec 32 := Scalar.addi v1406 v1405
  let v1413 : BitVec 32 := Scalar.select v1411 v1412 v1406
  let c0_i32_999 : BitVec 32 := 0#32
  let c0_i32_1000 : BitVec 32 := 0#32
  ![v1413.toNat, 0, 0]
def k0_off29 (d0 : Dev nD) (k0_t1 : Fin k0_t1_loop.trips) : Fin 2 → Nat :=
  let c0_i32_48 : BitVec 32 := 0#32
  let c1_i32_50 : BitVec 32 := 1#32
  let arg16 : BitVec 32 := Scf.iv c0_i32_48 c1_i32_50 k0_t1
  let c8_i32_834 : BitVec 32 := 8#32
  let v1152 : BitVec 32 := Scalar.muli arg16 c8_i32_834
  let c7_i32_835 : BitVec 32 := 7#32
  let v1153 : BitVec 32 := Scalar.addi v1152 c7_i32_835
  let c2_i32_957 : BitVec 32 := 2#32
  let v1344 : BitVec 32 := Scalar.addi v1153 c2_i32_957
  let c1_i32_958 : BitVec 32 := 1#32
  let v1345 : BitVec 32 := Scalar.subi v1344 c1_i32_958
  let c8_i32_959 : BitVec 32 := 8#32
  let c0_i32_966 : BitVec 32 := 0#32
  let v1363 : BitVec 1 := Scalar.cmpi .eq c8_i32_959 c0_i32_966
  let c1_i32_967 : BitVec 32 := 1#32
  let v1364 : BitVec 32 := Scalar.select v1363 c1_i32_967 c8_i32_959
  let v1365 : BitVec 32 := Scalar.remsi v1345 v1364
  let c0_i32_969 : BitVec 32 := 0#32
  let v1367 : BitVec 1 := Scalar.cmpi .slt v1365 c0_i32_969
  let c0_i32_970 : BitVec 32 := 0#32
  let v1368 : BitVec 1 := Scalar.cmpi .slt v1364 c0_i32_970
  let v1369 : BitVec 1 := Scalar.xori v1367 v1368
  let c0_i32_968 : BitVec 32 := 0#32
  let v1366 : BitVec 1 := Scalar.cmpi .ne v1365 c0_i32_968
  let v1370 : BitVec 1 := Scalar.andi v1369 v1366
  let v1371 : BitVec 32 := Scalar.addi v1365 v1364
  let v1372 : BitVec 32 := Scalar.select v1370 v1371 v1365
  let c1024_i32_984 : BitVec 32 := 1024#32
  let v1401 : BitVec 32 := Scalar.muli v1372 c1024_i32_984
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_972 : BitVec 32 := 0#32
  let v1374 : BitVec 1 := Scalar.cmpi .sgt v2 c0_i32_972
  let v1375 : BitVec 32 := Scalar.extui v1374
  let c0_i32_973 : BitVec 32 := 0#32
  let v1376 : BitVec 1 := Scalar.cmpi .slt v2 c0_i32_973
  let v1377 : BitVec 32 := Scalar.extui v1376
  let v1378 : BitVec 32 := Scalar.subi v1375 v1377
  let c2_i32_971 : BitVec 32 := 2#32
  let c0_i32_974 : BitVec 32 := 0#32
  let v1379 : BitVec 1 := Scalar.cmpi .sgt c2_i32_971 c0_i32_974
  let v1380 : BitVec 32 := Scalar.extui v1379
  let c0_i32_975 : BitVec 32 := 0#32
  let v1381 : BitVec 1 := Scalar.cmpi .slt c2_i32_971 c0_i32_975
  let v1382 : BitVec 32 := Scalar.extui v1381
  let v1383 : BitVec 32 := Scalar.subi v1380 v1382
  let v1384 : BitVec 1 := Scalar.cmpi .ne v1378 v1383
  let v1385 : BitVec 32 := Scalar.remsi v2 c2_i32_971
  let c0_i32_976 : BitVec 32 := 0#32
  let v1386 : BitVec 1 := Scalar.cmpi .ne v1385 c0_i32_976
  let v1387 : BitVec 1 := Scalar.andi v1384 v1386
  let v1373 : BitVec 32 := Scalar.divsi v2 c2_i32_971
  let c1_i32_977 : BitVec 32 := 1#32
  let v1388 : BitVec 32 := Scalar.subi v1373 c1_i32_977
  let v1389 : BitVec 32 := Scalar.select v1387 v1388 v1373
  let c0_i32_960 : BitVec 32 := 0#32
  let v1347 : BitVec 1 := Scalar.cmpi .sgt v1345 c0_i32_960
  let v1348 : BitVec 32 := Scalar.extui v1347
  let c0_i32_961 : BitVec 32 := 0#32
  let v1349 : BitVec 1 := Scalar.cmpi .slt v1345 c0_i32_961
  let v1350 : BitVec 32 := Scalar.extui v1349
  let v1351 : BitVec 32 := Scalar.subi v1348 v1350
  let c0_i32_962 : BitVec 32 := 0#32
  let v1352 : BitVec 1 := Scalar.cmpi .sgt c8_i32_959 c0_i32_962
  let v1353 : BitVec 32 := Scalar.extui v1352
  let c0_i32_963 : BitVec 32 := 0#32
  let v1354 : BitVec 1 := Scalar.cmpi .slt c8_i32_959 c0_i32_963
  let v1355 : BitVec 32 := Scalar.extui v1354
  let v1356 : BitVec 32 := Scalar.subi v1353 v1355
  let v1357 : BitVec 1 := Scalar.cmpi .ne v1351 v1356
  let v1358 : BitVec 32 := Scalar.remsi v1345 c8_i32_959
  let c0_i32_964 : BitVec 32 := 0#32
  let v1359 : BitVec 1 := Scalar.cmpi .ne v1358 c0_i32_964
  let v1360 : BitVec 1 := Scalar.andi v1357 v1359
  let v1346 : BitVec 32 := Scalar.divsi v1345 c8_i32_959
  let c1_i32_965 : BitVec 32 := 1#32
  let v1361 : BitVec 32 := Scalar.subi v1346 c1_i32_965
  let v1362 : BitVec 32 := Scalar.select v1360 v1361 v1346
  let v1390 : BitVec 32 := Scalar.addi v1389 v1362
  let c4_i32_978 : BitVec 32 := 4#32
  let c0_i32_979 : BitVec 32 := 0#32
  let v1391 : BitVec 1 := Scalar.cmpi .eq c4_i32_978 c0_i32_979
  let c1_i32_980 : BitVec 32 := 1#32
  let v1392 : BitVec 32 := Scalar.select v1391 c1_i32_980 c4_i32_978
  let v1393 : BitVec 32 := Scalar.remsi v1390 v1392
  let c0_i32_982 : BitVec 32 := 0#32
  let v1395 : BitVec 1 := Scalar.cmpi .slt v1393 c0_i32_982
  let c0_i32_983 : BitVec 32 := 0#32
  let v1396 : BitVec 1 := Scalar.cmpi .slt v1392 c0_i32_983
  let v1397 : BitVec 1 := Scalar.xori v1395 v1396
  let c0_i32_981 : BitVec 32 := 0#32
  let v1394 : BitVec 1 := Scalar.cmpi .ne v1393 c0_i32_981
  let v1398 : BitVec 1 := Scalar.andi v1397 v1394
  let v1399 : BitVec 32 := Scalar.addi v1393 v1392
  let v1400 : BitVec 32 := Scalar.select v1398 v1399 v1393
  let c2_i32_985 : BitVec 32 := 2#32
  let v1402 : BitVec 32 := Scalar.muli v1400 c2_i32_985
  let c512_i32_986 : BitVec 32 := 512#32
  let v1403 : BitVec 32 := Scalar.muli v1402 c512_i32_986
  ![v1401.toNat, v1403.toNat]
def k0_off30 (k0_t1 : Fin k0_t1_loop.trips) (c0_i32_922 : BitVec 32) : Fin 3 → Nat :=
  let c2_i32_921 : BitVec 32 := 2#32
  let c0_i32_48 : BitVec 32 := 0#32
  let c1_i32_50 : BitVec 32 := 1#32
  let arg16 : BitVec 32 := Scf.iv c0_i32_48 c1_i32_50 k0_t1
  let v1291 : BitVec 32 := Scalar.muli c2_i32_921 arg16
  let v1292 : BitVec 32 := Scalar.addi v1291 c0_i32_922
  let v1293 : Index := Scalar.indexCast v1292
  let c0_923 : Index := 0#32
  let c0_924 : Index := 0#32
  ![v1293.toNat, 0, 0]
def k0_off31 (k0_t1 : Fin k0_t1_loop.trips) (c0_i32_938 : BitVec 32) : Fin 1 → Nat :=
  let c2_i32_937 : BitVec 32 := 2#32
  let c0_i32_48 : BitVec 32 := 0#32
  let c1_i32_50 : BitVec 32 := 1#32
  let arg16 : BitVec 32 := Scf.iv c0_i32_48 c1_i32_50 k0_t1
  let v1316 : BitVec 32 := Scalar.muli c2_i32_937 arg16
  let v1317 : BitVec 32 := Scalar.addi v1316 c0_i32_938
  ![v1317.toNat]
def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_942 : BitVec 32 := 0#32
  let c0_i32_943 : BitVec 32 := 0#32
  ![v2.toNat, 0, 0]
def k0_off34 (k0_t1 : Fin k0_t1_loop.trips) (c0_i32_936 : BitVec 32) : Fin 3 → Nat :=
  let c2_i32_935 : BitVec 32 := 2#32
  let c0_i32_48 : BitVec 32 := 0#32
  let c1_i32_50 : BitVec 32 := 1#32
  let arg16 : BitVec 32 := Scf.iv c0_i32_48 c1_i32_50 k0_t1
  let v1314 : BitVec 32 := Scalar.muli c2_i32_935 arg16
  let v1315 : BitVec 32 := Scalar.addi v1314 c0_i32_936
  let c0_i32_944 : BitVec 32 := 0#32
  let c0_i32_945 : BitVec 32 := 0#32
  ![v1315.toNat, 0, 0]
def k0_dev9 (d0 : Dev nD) (k0_t1 : Fin k0_t1_loop.trips) : Nat :=
  let c0_i32_941 : BitVec 32 := 0#32
  let c2_i32_274 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_262 : BitVec 32 := 0#32
  let v234 : BitVec 1 := Scalar.cmpi .sgt v2 c0_i32_262
  let v235 : BitVec 32 := Scalar.extui v234
  let c0_i32_263 : BitVec 32 := 0#32
  let v236 : BitVec 1 := Scalar.cmpi .slt v2 c0_i32_263
  let v237 : BitVec 32 := Scalar.extui v236
  let v238 : BitVec 32 := Scalar.subi v235 v237
  let c2_i32_261 : BitVec 32 := 2#32
  let c0_i32_264 : BitVec 32 := 0#32
  let v239 : BitVec 1 := Scalar.cmpi .sgt c2_i32_261 c0_i32_264
  let v240 : BitVec 32 := Scalar.extui v239
  let c0_i32_265 : BitVec 32 := 0#32
  let v241 : BitVec 1 := Scalar.cmpi .slt c2_i32_261 c0_i32_265
  let v242 : BitVec 32 := Scalar.extui v241
  let v243 : BitVec 32 := Scalar.subi v240 v242
  let v244 : BitVec 1 := Scalar.cmpi .ne v238 v243
  let v245 : BitVec 32 := Scalar.remsi v2 c2_i32_261
  let c0_i32_266 : BitVec 32 := 0#32
  let v246 : BitVec 1 := Scalar.cmpi .ne v245 c0_i32_266
  let v247 : BitVec 1 := Scalar.andi v244 v246
  let v233 : BitVec 32 := Scalar.divsi v2 c2_i32_261
  let c1_i32_267 : BitVec 32 := 1#32
  let v248 : BitVec 32 := Scalar.subi v233 c1_i32_267
  let v249 : BitVec 32 := Scalar.select v247 v248 v233
  let c0_i32_48 : BitVec 32 := 0#32
  let c1_i32_50 : BitVec 32 := 1#32
  let arg16 : BitVec 32 := Scf.iv c0_i32_48 c1_i32_50 k0_t1
  let v250 : BitVec 32 := Scalar.addi v249 arg16
  let c4_i32_268 : BitVec 32 := 4#32
  let c0_i32_269 : BitVec 32 := 0#32
  let v251 : BitVec 1 := Scalar.cmpi .eq c4_i32_268 c0_i32_269
  let c1_i32_270 : BitVec 32 := 1#32
  let v252 : BitVec 32 := Scalar.select v251 c1_i32_270 c4_i32_268
  let v253 : BitVec 32 := Scalar.remsi v250 v252
  let c0_i32_272 : BitVec 32 := 0#32
  let v255 : BitVec 1 := Scalar.cmpi .slt v253 c0_i32_272
  let c0_i32_273 : BitVec 32 := 0#32
  let v256 : BitVec 1 := Scalar.cmpi .slt v252 c0_i32_273
  let v257 : BitVec 1 := Scalar.xori v255 v256
  let c0_i32_271 : BitVec 32 := 0#32
  let v254 : BitVec 1 := Scalar.cmpi .ne v253 c0_i32_271
  let v258 : BitVec 1 := Scalar.andi v257 v254
  let v259 : BitVec 32 := Scalar.addi v253 v252
  let v260 : BitVec 32 := Scalar.select v258 v259 v253
  let v261 : BitVec 32 := Scalar.muli c2_i32_274 v260
  let c0_i32_939 : BitVec 32 := 0#32
  let v1318 : BitVec 32 := Scalar.addi v261 c0_i32_939
  let c1_i32_940 : BitVec 32 := 1#32
  let v1319 : BitVec 32 := Scalar.muli v1318 c1_i32_940
  let v1320 : BitVec 32 := Scalar.addi c0_i32_941 v1319
  v1320.toNat
def k0_dev10 (d0 : Dev nD) (k0_t1 : Fin k0_t1_loop.trips) : Nat :=
  let c0_i32_952 : BitVec 32 := 0#32
  let c2_i32_274 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_262 : BitVec 32 := 0#32
  let v234 : BitVec 1 := Scalar.cmpi .sgt v2 c0_i32_262
  let v235 : BitVec 32 := Scalar.extui v234
  let c0_i32_263 : BitVec 32 := 0#32
  let v236 : BitVec 1 := Scalar.cmpi .slt v2 c0_i32_263
  let v237 : BitVec 32 := Scalar.extui v236
  let v238 : BitVec 32 := Scalar.subi v235 v237
  let c2_i32_261 : BitVec 32 := 2#32
  let c0_i32_264 : BitVec 32 := 0#32
  let v239 : BitVec 1 := Scalar.cmpi .sgt c2_i32_261 c0_i32_264
  let v240 : BitVec 32 := Scalar.extui v239
  let c0_i32_265 : BitVec 32 := 0#32
  let v241 : BitVec 1 := Scalar.cmpi .slt c2_i32_261 c0_i32_265
  let v242 : BitVec 32 := Scalar.extui v241
  let v243 : BitVec 32 := Scalar.subi v240 v242
  let v244 : BitVec 1 := Scalar.cmpi .ne v238 v243
  let v245 : BitVec 32 := Scalar.remsi v2 c2_i32_261
  let c0_i32_266 : BitVec 32 := 0#32
  let v246 : BitVec 1 := Scalar.cmpi .ne v245 c0_i32_266
  let v247 : BitVec 1 := Scalar.andi v244 v246
  let v233 : BitVec 32 := Scalar.divsi v2 c2_i32_261
  let c1_i32_267 : BitVec 32 := 1#32
  let v248 : BitVec 32 := Scalar.subi v233 c1_i32_267
  let v249 : BitVec 32 := Scalar.select v247 v248 v233
  let c0_i32_48 : BitVec 32 := 0#32
  let c1_i32_50 : BitVec 32 := 1#32
  let arg16 : BitVec 32 := Scf.iv c0_i32_48 c1_i32_50 k0_t1
  let v250 : BitVec 32 := Scalar.addi v249 arg16
  let c4_i32_268 : BitVec 32 := 4#32
  let c0_i32_269 : BitVec 32 := 0#32
  let v251 : BitVec 1 := Scalar.cmpi .eq c4_i32_268 c0_i32_269
  let c1_i32_270 : BitVec 32 := 1#32
  let v252 : BitVec 32 := Scalar.select v251 c1_i32_270 c4_i32_268
  let v253 : BitVec 32 := Scalar.remsi v250 v252
  let c0_i32_272 : BitVec 32 := 0#32
  let v255 : BitVec 1 := Scalar.cmpi .slt v253 c0_i32_272
  let c0_i32_273 : BitVec 32 := 0#32
  let v256 : BitVec 1 := Scalar.cmpi .slt v252 c0_i32_273
  let v257 : BitVec 1 := Scalar.xori v255 v256
  let c0_i32_271 : BitVec 32 := 0#32
  let v254 : BitVec 1 := Scalar.cmpi .ne v253 c0_i32_271
  let v258 : BitVec 1 := Scalar.andi v257 v254
  let v259 : BitVec 32 := Scalar.addi v253 v252
  let v260 : BitVec 32 := Scalar.select v258 v259 v253
  let v261 : BitVec 32 := Scalar.muli c2_i32_274 v260
  let c1_i32_950 : BitVec 32 := 1#32
  let v1333 : BitVec 32 := Scalar.addi v261 c1_i32_950
  let c1_i32_951 : BitVec 32 := 1#32
  let v1334 : BitVec 32 := Scalar.muli v1333 c1_i32_951
  let v1335 : BitVec 32 := Scalar.addi c0_i32_952 v1334
  v1335.toNat
def k0_dev11 : Nat :=
  let c0_i32_264_r0 : BitVec 32 := 0#32
  let c0_i32_262_r0 : BitVec 32 := 0#32
  let c1_i32_263_r0 : BitVec 32 := 1#32
  let v234_r0 : BitVec 32 := Scalar.muli c0_i32_262_r0 c1_i32_263_r0
  let v235_r0 : BitVec 32 := Scalar.addi c0_i32_264_r0 v234_r0
  v235_r0.toNat
def k0_dev12 : Nat :=
  let c0_i32_268_r0 : BitVec 32 := 0#32
  let c1_i32_266_r0 : BitVec 32 := 1#32
  let c1_i32_267_r0 : BitVec 32 := 1#32
  let v236_r0 : BitVec 32 := Scalar.muli c1_i32_266_r0 c1_i32_267_r0
  let v237_r0 : BitVec 32 := Scalar.addi c0_i32_268_r0 v236_r0
  v237_r0.toNat
def k0_dev13 : Nat :=
  let c0_i32_272_r0 : BitVec 32 := 0#32
  let c2_i32_270_r0 : BitVec 32 := 2#32
  let c1_i32_271_r0 : BitVec 32 := 1#32
  let v238_r0 : BitVec 32 := Scalar.muli c2_i32_270_r0 c1_i32_271_r0
  let v239_r0 : BitVec 32 := Scalar.addi c0_i32_272_r0 v238_r0
  v239_r0.toNat
def k0_dev14 : Nat :=
  let c0_i32_276_r0 : BitVec 32 := 0#32
  let c3_i32_274_r0 : BitVec 32 := 3#32
  let c1_i32_275_r0 : BitVec 32 := 1#32
  let v240_r0 : BitVec 32 := Scalar.muli c3_i32_274_r0 c1_i32_275_r0
  let v241_r0 : BitVec 32 := Scalar.addi c0_i32_276_r0 v240_r0
  v241_r0.toNat
def k0_dev15 : Nat :=
  let c0_i32_280_r0 : BitVec 32 := 0#32
  let c4_i32_278_r0 : BitVec 32 := 4#32
  let c1_i32_279_r0 : BitVec 32 := 1#32
  let v242_r0 : BitVec 32 := Scalar.muli c4_i32_278_r0 c1_i32_279_r0
  let v243_r0 : BitVec 32 := Scalar.addi c0_i32_280_r0 v242_r0
  v243_r0.toNat
def k0_dev16 : Nat :=
  let c0_i32_284_r0 : BitVec 32 := 0#32
  let c5_i32_282_r0 : BitVec 32 := 5#32
  let c1_i32_283_r0 : BitVec 32 := 1#32
  let v244_r0 : BitVec 32 := Scalar.muli c5_i32_282_r0 c1_i32_283_r0
  let v245_r0 : BitVec 32 := Scalar.addi c0_i32_284_r0 v244_r0
  v245_r0.toNat
def k0_dev17 : Nat :=
  let c0_i32_288_r0 : BitVec 32 := 0#32
  let c6_i32_286_r0 : BitVec 32 := 6#32
  let c1_i32_287_r0 : BitVec 32 := 1#32
  let v246_r0 : BitVec 32 := Scalar.muli c6_i32_286_r0 c1_i32_287_r0
  let v247_r0 : BitVec 32 := Scalar.addi c0_i32_288_r0 v246_r0
  v247_r0.toNat
def k0_dev18 : Nat :=
  let c0_i32_292_r0 : BitVec 32 := 0#32
  let c7_i32_290_r0 : BitVec 32 := 7#32
  let c1_i32_291_r0 : BitVec 32 := 1#32
  let v248_r0 : BitVec 32 := Scalar.muli c7_i32_290_r0 c1_i32_291_r0
  let v249_r0 : BitVec 32 := Scalar.addi c0_i32_292_r0 v248_r0
  v249_r0.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.ProtoKernelIdeal.lean ====
/-
# `KernelIdeal`: the protocol between the eight devices

Device `c` multiplies its rows of `x` by `w`, one pair of column blocks a trip, and sends the block of device `p`'s
columns into slot `c` of `p`'s receive buffer. Here: the names of the slots and semaphores the kernel slices out at
computed offsets, the closed forms of those offsets, and the schedule of the semaphores other devices credit —

* the BARRIER semaphore of `c`: every device `d` signals it once, handing over slot `c` of `d`'s receive buffer;
* the RECEIVE semaphore `s` of `c`: device `s`'s transfer credits it, handing over slot `s` of `c`'s receive buffer with
  device `s`'s block for `c` in it;
* the SEND semaphore `j` of `c`: `c`'s own transfer out of slot `j` of its send buffer, handing that slot back;
* the CLOSING semaphore of `c`: every device signals it once at its end, handing over nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Pipeline.Launch
public import Idealize.ShloMosaic.Lib.Pipeline.Kit
public import Idealize.ShloMosaic.Lib.Exec
public import Idealize.ShloMosaic.Lib.Tactic

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's copy, the devices' rounds (a duty is the device that pays), the local transfers' counters -/

abbrev UB : Type := URounds (GSem nD τ sig) (Dev nD)
abbrev UU : Type := UR sig nD τ × (UB × Counters)
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans (uEmb (nD := nD) (τ := τ) (sig := sig) (Ix := Unit) (Val := Elt F) (Name := ℕ) (U := UU) (Lvl := ℕ)).toEmb
abbrev 𝒱₀ : Variants := Variants.none

/-! ## The buffers -/

abbrev xM : Memref sig .tc .hbm S1024x8192 .f32 := Memref.whole main_arg0
abbrev wM : Memref sig .tc .hbm S8192x4096 .f32 := Memref.whole main_arg1
abbrev outM : Memref sig .tc .hbm S8192x512 .f32 := Memref.whole main_v1
abbrev xbM : Memref sig .tc .vmem S1024x8192 .bf16 := Memref.whole cc0_scratch0
abbrev xinM : Memref sig .tc .vmem S1024x1024 .f32 := Memref.whole cc0_scratch1
abbrev ysM : Memref sig .tc .vmem S8x1024x512 .bf16 := Memref.whole cc0_scratch2
abbrev rcM : Memref sig .tc .vmem S8x1024x512 .bf16 := Memref.whole cc0_scratch3
abbrev stM : Memref sig .tc .vmem S1024x512 .f32 := Memref.whole cc0_scratch4
abbrev wbM : Memref sig .tc .vmem S2x1024x1024 .f32 := Memref.whole cc0_scratch5
abbrev wcM : Memref sig .tc .vmem S1024x1024 .bf16 := Memref.whole cc0_scratch6
abbrev acM : Memref sig .tc .vmem S2x1024x512 .f32 := Memref.whole cc0_scratch7

/-! ## Slots and semaphores by their numbers -/

abbrev slotOff (j : Fin 8) : Fin 3 → Nat := ![j.val, 0, 0]
theorem slotOff_inb (j : Fin 8) : ∀ a, slotOff j a + S1x1024x512.size a ≤ S8x1024x512.size a := by revert j; decide
abbrev semOff (j : Fin 8) : Fin 1 → Nat := ![j.val]
theorem semOff_inb (j : Fin 8) : ∀ a, semOff j a + S1.size a ≤ S8.size a := by revert j; decide

/-- Slot `j` of the send buffer, as the kernel slices and squeezes it; -/
def ysl (j : Fin 8) : Memref sig .tc .vmem S1024x512 .bf16 :=
  (ysM.slice (Rect.unit (s := S8x1024x512) (slotOff j) S1x1024x512.size (slotOff_inb j)) (fun _ => rfl)).squeeze S1024x512 squeezes_S1x1024x512_S1024x512
/-- slot `s` of the receive buffer. -/
def rsl (s : Fin 8) : Memref sig .tc .vmem S1024x512 .bf16 :=
  (rcM.slice (Rect.unit (s := S8x1024x512) (slotOff s) S1x1024x512.size (slotOff_inb s)) (fun _ => rfl)).squeeze S1024x512 squeezes_S1x1024x512_S1024x512
/-- Send semaphore `j`; -/
def sndS (j : Fin 8) : DmaSems sig S_ := (cc0_scratch10.slice (Rect.unit (s := S8) (semOff j) S1.size (semOff_inb j))).squeeze S_ squeezes_S1_S_
/-- receive semaphore `s`. -/
def rcvS (s : Fin 8) : DmaSems sig S_ := (cc0_scratch11.slice (Rect.unit (s := S8) (semOff s) S1.size (semOff_inb s))).squeeze S_ squeezes_S1_S_
/-- The runtime's barrier semaphore; -/
abbrev barS : Sem sig := (SemArray.scalar (sig.barrier 0 rfl) : Sems sig S_).sem
/-- the closing barrier's semaphore. -/
abbrev finS : Sem sig := (cc0_scoped0 : Sems sig S_).sem

/-! ## The semaphores other devices credit, by kind -/

/-- `inl true` the barrier semaphore, `inl false` the closing one, `inr (true, j)` send semaphore `j`, `inr (false, s)`
    receive semaphore `s`. -/
abbrev Kd : Type := Bool ⊕ (Bool × Fin 8)
abbrev csem : Kd → SemLoc sig
  | .inl true => .reg barS
  | .inl false => .reg finS
  | .inr (true, j) => .dma (sndS j).sem
  | .inr (false, s) => .dma (rcvS s).sem
abbrev kcell (ck : Dev nD × Kd) : GSem nD τ sig := ((ck.1 : Thread nD τ), csem ck.2)
abbrev barCell (c : Dev nD) : GSem nD τ sig := ((c : Thread nD τ), .reg barS)
abbrev finCell (c : Dev nD) : GSem nD τ sig := ((c : Thread nD τ), .reg finS)
abbrev sndCell (c : Dev nD) (j : Fin 8) : GSem nD τ sig := ((c : Thread nD τ), .dma (sndS j).sem)
abbrev rcvCell (c : Dev nD) (s : Fin 8) : GSem nD τ sig := ((c : Thread nD τ), .dma (rcvS s).sem)

theorem csem_injective : Function.Injective csem := by
  have h : ∀ a b : Kd, csem a = csem b → a = b := by decide +kernel
  exact fun a b => h a b

/-- The kind of a semaphore, if it is one of these. -/
def kind (l : SemLoc sig) : Option Kd := if h : ∃ k : Kd, csem k = l then some h.choose else none
theorem kind_csem (k : Kd) : kind (csem k) = some k := by
  have h : ∃ k' : Kd, csem k' = csem k := ⟨k, rfl⟩
  unfold kind; rw [dif_pos h]; exact congrArg some (csem_injective h.choose_spec)
theorem kind_none {l : SemLoc sig} (h : ∀ k : Kd, csem k ≠ l) : kind l = none := by
  unfold kind; exact dif_neg fun ⟨k, hk⟩ => h k hk

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## Targets -/

/-- The pair of column blocks device `c` computes in trip `i`; -/
def pr (c : Dev nD) (i : ℕ) : Fin 4 := ⟨(c.val / 2 + i) % 4, Nat.mod_lt _ (by decide)⟩
/-- the device its block `d` of that trip goes to. -/
def tgt (c : Dev nD) (i : ℕ) (d : Fin 2) : Dev nD := ⟨2 * ((c.val / 2 + i) % 4) + d.val, by have := d.isLt; show _ < 8; omega⟩

theorem dev9_eq (c : Dev nD) (t : Fin k0_t1_loop.trips) : (⟨k0_dev9 c t, k0_dev9_lt c t⟩ : Dev nD) = tgt c t.val 0 := by
  revert c t; decide +kernel
theorem dev10_eq (c : Dev nD) (t : Fin k0_t1_loop.trips) : (⟨k0_dev10 c t, k0_dev10_lt c t⟩ : Dev nD) = tgt c t.val 1 := by
  revert c t; decide +kernel

/-- Every device is the target of exactly one send: the send's number, -/
def jOf (c p : Dev nD) : Fin 8 := ⟨2 * ((p.val / 2 + 4 - c.val / 2) % 4) + p.val % 2, by omega⟩
/-- and back. -/
def tgtJ (c : Dev nD) (j : Fin 8) : Dev nD := tgt c (j.val / 2) ⟨j.val % 2, Nat.mod_lt _ (by decide)⟩
theorem tgtJ_jOf (c p : Dev nD) : tgtJ c (jOf c p) = p := by revert c p; decide
theorem jOf_tgtJ (c : Dev nD) (j : Fin 8) : jOf c (tgtJ c j) = j := by revert c j; decide

/-! ## The schedule -/

/-- What one transfer of a block credits on its semaphores. -/
abbrev N : ℕ := (rsl 0).view.dmaCredit
theorem N_pos : 0 < N := View.dmaCredit_pos _ (by decide)

/-- Slot `j` of `c`'s send buffer held at `f`; -/
abbrev ysP (c : Dev nD) (j : Fin 8) (f : Buf (Elt F) ((ysl j).view.loc (c : Thread nD τ))) : sProp 𝕄 :=
  (ysl j).view.loc (c : Thread nD τ) ↦[(ysl j).view.set]{fullShare} f
/-- slot `s` of its receive buffer held at `f`. -/
abbrev rsP (c : Dev nD) (s : Fin 8) (f : Buf (Elt F) ((rsl s).view.loc (c : Thread nD τ))) : sProp 𝕄 :=
  (rsl s).view.loc (c : Thread nD τ) ↦[(rsl s).view.set]{fullShare} f

variable (V : Dev nD → Dev nD → S1024x512.Idx → Elt F .bf16)

/-- Device `d`'s signal hands `c`: slot `c` of `d`'s receive buffer, at whatever contents. -/
def barPay (c d : Dev nD) : sProp 𝕄 := iprop(∃ f, rsP d c f)
/-- Device `s`'s transfer hands `c`: slot `s` of `c`'s receive buffer holding `s`'s block for `c`. -/
def rcvPay (c : Dev nD) (s : Fin 8) : sProp 𝕄 := iprop(∃ f, ⌜(rsl s).view.read (Elt F) f = V s c⌝ ∗ rsP c s f)
/-- `c`'s own transfer `j`, gone out, hands it back slot `j` of its send buffer. -/
def sndPay (c : Dev nD) (j : Fin 8) : sProp 𝕄 := iprop(∃ f, ysP c j f)

instance barPay_storable (c d : Dev nD) : BI.Storable (upEmb : UEmb _ 𝕄) (barPay (F := F) c d) := by unfold barPay; infer_instance
instance rcvPay_storable (c : Dev nD) (s : Fin 8) : BI.Storable (upEmb : UEmb _ 𝕄) (rcvPay V c s) := by unfold rcvPay; infer_instance
instance sndPay_storable (c : Dev nD) (j : Fin 8) : BI.Storable (upEmb : UEmb _ 𝕄) (sndPay (F := F) c j) := by unfold sndPay; infer_instance

def dutiesK : Option Kd → Finset (Dev nD)
  | some (.inl _) => Finset.univ
  | some (.inr _) => {0}
  | none => ∅
def amountK : Option Kd → ℕ
  | some (.inl _) => 1
  | _ => N
def payK (c : Dev nD) (d : Dev nD) : Option Kd → sProp 𝕄
  | some (.inl true) => barPay c d
  | some (.inr (true, j)) => sndPay c j
  | some (.inr (false, s)) => rcvPay V c s
  | _ => iprop(emp)

/-- One round: a barrier semaphore has a duty of one unit for every device, a transfer's semaphore one duty of the
    block's credit. -/
def sched : Rounds.Schedule (GSem nD τ sig) (Dev nD) 𝕄 where
  duties g r := if r = 0 ∧ g.1.2 = .tc then dutiesK (kind g.2) else ∅
  unitless _ := False
  amount g _ _ := amountK (kind g.2)
  payload g _ d := payK V g.1.1 d (kind g.2)
  amount_pos g _ _ _ := by
    rcases kind g.2 with _ | ⟨_ | ⟨_ | _, _⟩⟩ <;> first | exact Nat.one_pos | exact N_pos

instance sched_payload_storable (g : GSem nD τ sig) (r : ℕ) (d : Dev nD) : BI.Storable (upEmb : UEmb _ 𝕄) ((sched V).payload g r d) := by
  show BI.Storable upEmb (payK V g.1.1 d (kind g.2))
  rcases kind g.2 with _ | ⟨⟨_ | _⟩ | ⟨⟨_ | _⟩, _⟩⟩ <;> unfold payK <;> infer_instance

section Tables
variable (c : Dev nD)

theorem duties_cell (k : Kd) : (sched V).duties (kcell (c, k)) 0 = dutiesK (some k) := by
  have h : (sched V).duties (kcell (c, k)) 0 = if (0 : ℕ) = 0 ∧ (kcell (c, k)).1.2 = .tc then dutiesK (kind (csem k)) else ∅ := rfl
  rw [h, if_pos ⟨rfl, rfl⟩, kind_csem]
theorem duties_later (g : GSem nD τ sig) : ∀ r, 1 ≤ r → (sched V).duties g r = ∅ :=
  fun r hr => if_neg fun h => by omega
theorem amount_cell (k : Kd) (r : ℕ) (d : Dev nD) : (sched V).amount (kcell (c, k)) r d = amountK (some k) := by
  show amountK (kind (csem k)) = _; rw [kind_csem]
theorem payload_cell (k : Kd) (r : ℕ) (d : Dev nD) : (sched V).payload (kcell (c, k)) r d = payK V c d (some k) := by
  show payK V c d (kind (csem k)) = _; rw [kind_csem]

theorem expect_reg (b : Bool) : (sched V).expect (kcell (c, .inl b)) 0 = 8 := by
  unfold Schedule.expect Schedule.amountOf
  rw [duties_cell, Finset.sum_congr rfl fun d _ => amount_cell V c (.inl b) 0 d]; rfl
theorem expect_dma (bj : Bool × Fin 8) : (sched V).expect (kcell (c, .inr bj)) 0 = N := by
  unfold Schedule.expect Schedule.amountOf
  rw [duties_cell]; show ∑ d ∈ {0}, _ = _; rw [Finset.sum_singleton, amount_cell]; rfl

theorem rest_bar : bigSep ((sched V).duties (barCell c) 0 \ ∅) (fun d => (sched V).payload (barCell c) 0 d)
    = bigSep Finset.univ fun d : Dev nD => barPay (F := F) c d := by
  have hd := duties_cell V c (.inl true)
  rw [Finset.sdiff_empty, show barCell c = kcell (c, .inl true) from rfl, hd]
  exact bigSep_congr fun d _ => payload_cell V c (.inl true) 0 d
theorem rest_snd (j : Fin 8) : bigSep ((sched V).duties (sndCell c j) 0 \ ∅) (fun d => (sched V).payload (sndCell c j) 0 d) = sndPay (F := F) c j := by
  rw [Finset.sdiff_empty, show sndCell c j = kcell (c, .inr (true, j)) from rfl, duties_cell]
  exact (bigSep_singleton ..).trans (payload_cell V c (.inr (true, j)) 0 0)
theorem rest_rcv (s : Fin 8) : bigSep ((sched V).duties (rcvCell c s) 0 \ ∅) (fun d => (sched V).payload (rcvCell c s) 0 d) = rcvPay V c s := by
  rw [Finset.sdiff_empty, show rcvCell c s = kcell (c, .inr (false, s)) from rfl, duties_cell]
  exact (bigSep_singleton ..).trans (payload_cell V c (.inr (false, s)) 0 0)

end Tables

/-! ## What each device owes; the levels -/

/-- One unit on every device's closing semaphore; -/
def finOwe : ℕ → CellTallies nD τ sig Unit
  | 0 => 0
  | n + 1 => finOwe n + tallyAt (finCell (Fin.ofNat 8 (7 - n))) () 1
/-- with it, the blocks of trips `4 - n` on, the trip's second below its first; -/
def rcvOwe (c : Dev nD) : ℕ → CellTallies nD τ sig Unit
  | 0 => finOwe 8
  | n + 1 => rcvOwe c n + tallyAt (rcvCell (tgt c (3 - n) 1) c) () N + tallyAt (rcvCell (tgt c (3 - n) 0) c) () N
/-- with those, one unit on the barrier semaphores of devices `8 - n` on. -/
def barOwe (c : Dev nD) : ℕ → CellTallies nD τ sig Unit
  | 0 => rcvOwe c 4
  | n + 1 => barOwe c n + tallyAt (barCell (Fin.ofNat 8 (7 - n))) () 1

def L (g : GSem nD τ sig) : Finset Unit := if g.1.2 = .tc then {()} else ∅
/-- barrier 1, receive 2, closing 3, every other semaphore 0. -/
def lvK : Option Kd → ℕ
  | some (.inl true) => 1
  | some (.inl false) => 3
  | some (.inr (false, _)) => 2
  | _ => 0
def lv (g : GSem nD τ sig) (_ : Unit) : ℕ := lvK (kind g.2)
theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × Kd) (u : Unit) : lv (kcell ck) u = lvK (some ck.2) := by
  show lvK (kind (csem ck.2)) = _; rw [kind_csem]

/-- `O` owes only on TensorCores' semaphores of level at least `n`. -/
def Above (n : ℕ) (O : CellTallies nD τ sig Unit) : Prop := ∀ g u, 0 < O g u → ∃ ck : Dev nD × Kd, g = kcell ck ∧ n ≤ lvK (some ck.2)
theorem Above.zero (n : ℕ) : Above n 0 := fun g u h => absurd h (Nat.lt_irrefl 0)
theorem Above.add {n : ℕ} {O : CellTallies nD τ sig Unit} (h : Above n O) (ck : Dev nD × Kd) (hk : n ≤ lvK (some ck.2)) (q : ℕ) :
    Above n (O + tallyAt (kcell ck) () q) := by
  intro g u hg
  rw [Pi.add_apply, Finsupp.add_apply, tallyAt_apply] at hg
  by_cases e : g = kcell ck ∧ u = ()
  · exact ⟨ck, e.1, hk⟩
  · rw [if_neg e] at hg; exact h g u hg
theorem above_fin : ∀ n, Above 3 (finOwe n)
  | 0 => Above.zero 3
  | n + 1 => (above_fin n).add (Fin.ofNat 8 (7 - n), .inl false) (Nat.le_refl _) 1
theorem Above.mono {a b : ℕ} (h : a ≤ b) {O : CellTallies nD τ sig Unit} (H : Above b O) : Above a O :=
  fun g u hg => let ⟨ck, e, l⟩ := H g u hg; ⟨ck, e, Nat.le_trans h l⟩
theorem above_rcv (c : Dev nD) : ∀ n, Above 2 (rcvOwe c n)
  | 0 => (above_fin 8).mono (by decide)
  | n + 1 => ((above_rcv c n).add (tgt c (3 - n) 1, .inr (false, c)) (Nat.le_refl _) N).add (tgt c (3 - n) 0, .inr (false, c)) (Nat.le_refl _) N

/-- A device may wait on a semaphore of level below everything it owes. -/
theorem mayWait_of_above (c : Dev nD) (sm : SemLoc sig) (n : ℕ) {O : CellTallies nD τ sig Unit} (hl : lvK (kind sm) < n) (hO : Above n O) :
    (levAts L lv : sProp 𝕄) ⊢ MayWait (c : Thread nD τ) sm () O :=
  MayOwe.of_cut (L := L) (lev := lv) (n - 1) (fun p hp => by rw [Finset.mem_singleton.mp hp, L_tc]; exact Finset.mem_singleton_self _)
    (fun g u hg => by obtain ⟨ck, rfl, -⟩ := hO g u hg; rw [L_tc]; exact Finset.mem_singleton_self _)
    (fun p hp => by rw [Finset.mem_singleton.mp hp]; show lvK (kind sm) ≤ n - 1; omega)
    (fun g u hg => by obtain ⟨ck, rfl, h⟩ := hO g u hg; rw [lv_cell]; omega)

end Cert.KernelIdeal.Pf

end
-- ==== Proof.OffsKernelIdeal.lean ====
/-
# `KernelIdeal`: the computed offsets in closed form

Every offset the loop computes, as a function of the device `c` and the trip `t`: the weight block a transfer fetches,
the slot it lands in, the semaphore it completes on, the send slots of the trip, and the conditions of its regions.
-/
module

public import proofs.«01_k».proof.Proof.ProtoKernelIdeal
public import Idealize.ShloMosaic.Lib.ViewIndex

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The weight blocks, their slots and semaphores -/

abbrev wOff (q : Fin 8) (p : Fin 4) : Fin 2 → Nat := ![1024 * q.val, 1024 * p.val]
theorem wOff_inb (q : Fin 8) (p : Fin 4) : ∀ a, wOff q p a + S1024x1024.size a ≤ S8192x4096.size a := by revert q p; decide
/-- Rows `1024 q …` and columns `1024 p …` of the weights. -/
def wblk (q : Fin 8) (p : Fin 4) : Memref sig .tc .hbm S1024x1024 .f32 :=
  wM.slice (Rect.unit (s := S8192x4096) (wOff q p) S1024x1024.size (wOff_inb q p)) (fun _ => rfl)

abbrev wsOff (s : Fin 2) : Fin 3 → Nat := ![s.val, 0, 0]
theorem wsOff_inb (s : Fin 2) : ∀ a, wsOff s a + S1x1024x1024.size a ≤ S2x1024x1024.size a := by revert s; decide
/-- Slot `s` of the weight buffer; -/
def wsl (s : Fin 2) : Memref sig .tc .vmem S1024x1024 .f32 :=
  (wbM.slice (Rect.unit (s := S2x1024x1024) (wsOff s) S1x1024x1024.size (wsOff_inb s)) (fun _ => rfl)).squeeze S1024x1024 squeezes_S1x1024x1024_S1024x1024
abbrev wqOff (s : Fin 2) : Fin 1 → Nat := ![s.val]
theorem wqOff_inb (s : Fin 2) : ∀ a, wqOff s a + S1.size a ≤ S2.size a := by revert s; decide
/-- its semaphore. -/
def wsS (s : Fin 2) : DmaSems sig S_ := (cc0_scratch9.slice (Rect.unit (s := S2) (wqOff s) S1.size (wqOff_inb s))).squeeze S_ squeezes_S1_S_

instance (s : Fin 2) : ClosedOff (wsOff s) := ⟨wsOff s, rfl⟩
instance (j : Fin 8) : ClosedOff (slotOff j) := ⟨slotOff j, rfl⟩
instance (q : Fin 8) (p : Fin 4) : ClosedOff (wOff q p) := ⟨wOff q p, rfl⟩

/-- The send slot of block `d` of trip `t`. -/
def yj (t : ℕ) (d : Fin 2) : Fin 8 := ⟨(2 * t + d.val) % 8, Nat.mod_lt _ (by decide)⟩

/-- Two weight blocks at different rows or different columns share no element. -/
theorem wblk_disjoint {q q' : Fin 8} {p p' : Fin 4} (h : q ≠ q' ∨ p ≠ p') : Disjoint (wblk q p).view.set (wblk q' p').view.set := by
  change Disjoint (wM.view.slice (Rect.unit (s := S8192x4096) (wOff q p) S1024x1024.size (wOff_inb q p))).set
    (wM.view.slice (Rect.unit (s := S8192x4096) (wOff q' p') S1024x1024.size (wOff_inb q' p'))).set
  apply View.disjoint_slice
  rcases h with h | h
  · refine Rect.unit_disjoint (0 : Fin 2) ?_
    have := Fin.val_ne_of_ne h
    show 1024 * q.val + 1024 ≤ 1024 * q'.val ∨ 1024 * q'.val + 1024 ≤ 1024 * q.val
    omega
  · refine Rect.unit_disjoint (1 : Fin 2) ?_
    have := Fin.val_ne_of_ne h
    show 1024 * p.val + 1024 ≤ 1024 * p'.val ∨ 1024 * p'.val + 1024 ≤ 1024 * p.val
    omega

theorem pr_next (c : Dev nD) {t : ℕ} (ht : t < 3) : pr c t ≠ pr c (t + 1) := by
  intro h; have := congrArg Fin.val h; simp only [pr] at this; omega

section Names

theorem wblk_of {off : Fin 2 → Nat} {q : Fin 8} {p : Fin 4} (e : off = wOff q p) (hh hs) :
    wM.slice (Rect.unit (s := S8192x4096) off S1024x1024.size hh) hs = wblk q p := Memref.slice_unit_congr _ e _ _ _ (fun _ => rfl)
theorem wsl_of {off : Fin 3 → Nat} {s : Fin 2} (e : off = wsOff s) (hh hs) :
    (wbM.slice (Rect.unit (s := S2x1024x1024) off S1x1024x1024.size hh) hs).squeeze S1024x1024 squeezes_S1x1024x1024_S1024x1024 = wsl s :=
  congrArg (fun M : Memref sig .tc .vmem S1x1024x1024 .f32 => M.squeeze S1024x1024 squeezes_S1x1024x1024_S1024x1024) (Memref.slice_unit_congr _ e _ _ _ _)
theorem wsS_of {off : Fin 1 → Nat} {s : Fin 2} (e : off = wqOff s) (hh) :
    (cc0_scratch9.slice (Rect.unit (s := S2) off S1.size hh)).squeeze S_ squeezes_S1_S_ = wsS s :=
  congrArg (fun A : DmaSems sig S1 => A.squeeze S_ squeezes_S1_S_) (SemArray.slice_unit_congr _ e _ _)
theorem ysl_of {off : Fin 3 → Nat} {j : Fin 8} (e : off = slotOff j) (hh hs) :
    (ysM.slice (Rect.unit (s := S8x1024x512) off S1x1024x512.size hh) hs).squeeze S1024x512 squeezes_S1x1024x512_S1024x512 = ysl j :=
  congrArg (fun M : Memref sig .tc .vmem S1x1024x512 .bf16 => M.squeeze S1024x512 squeezes_S1x1024x512_S1024x512) (Memref.slice_unit_congr _ e _ _ _ _)
theorem rsl_of {off : Fin 3 → Nat} {j : Fin 8} (e : off = slotOff j) (hh hs) :
    (rcM.slice (Rect.unit (s := S8x1024x512) off S1x1024x512.size hh) hs).squeeze S1024x512 squeezes_S1x1024x512_S1024x512 = rsl j :=
  congrArg (fun M : Memref sig .tc .vmem S1x1024x512 .bf16 => M.squeeze S1024x512 squeezes_S1x1024x512_S1024x512) (Memref.slice_unit_congr _ e _ _ _ _)
theorem sndS_of {off : Fin 1 → Nat} {j : Fin 8} (e : off = semOff j) (hh) :
    (cc0_scratch10.slice (Rect.unit (s := S8) off S1.size hh)).squeeze S_ squeezes_S1_S_ = sndS j :=
  congrArg (fun A : DmaSems sig S1 => A.squeeze S_ squeezes_S1_S_) (SemArray.slice_unit_congr _ e _ _)
theorem rcvS_of {off : Fin 1 → Nat} {j : Fin 8} (e : off = semOff j) (hh) :
    (cc0_scratch11.slice (Rect.unit (s := S8) off S1.size hh)).squeeze S_ squeezes_S1_S_ = rcvS j :=
  congrArg (fun A : DmaSems sig S1 => A.squeeze S_ squeezes_S1_S_) (SemArray.slice_unit_congr _ e _ _)

end Names

/-! ## The trip's chains -/

section Chains
variable (c : Dev nD) (t : Fin k0_t1_loop.trips)

theorem trips_eq : k0_t1_loop.trips = 4 := by decide

theorem off1_eq : k0_off1 c = wOff 0 (pr c 0) := by revert c; decide +kernel

theorem off2_eq : k0_off2 t = wqOff 1 := by revert t; decide +kernel
theorem off9_eq : k0_off9 t = wqOff 0 := by revert t; decide +kernel
theorem off12_eq : k0_off12 t = wqOff 1 := by revert t; decide +kernel
theorem off15_eq : k0_off15 t = wqOff 0 := by revert t; decide +kernel
theorem off18_eq : k0_off18 t = wqOff 1 := by revert t; decide +kernel
theorem off21_eq : k0_off21 t = wqOff 0 := by revert t; decide +kernel
theorem off24_eq : k0_off24 t = wqOff 1 := by revert t; decide +kernel
theorem off27_eq : k0_off27 t = wqOff 0 := by revert t; decide +kernel

theorem off3_eq : k0_off3 t = wsOff 1 := by revert t; decide +kernel
theorem off10_eq : k0_off10 t = wsOff 0 := by revert t; decide +kernel
theorem off13_eq : k0_off13 t = wsOff 1 := by revert t; decide +kernel
theorem off16_eq : k0_off16 t = wsOff 0 := by revert t; decide +kernel
theorem off19_eq : k0_off19 t = wsOff 1 := by revert t; decide +kernel
theorem off22_eq : k0_off22 t = wsOff 0 := by revert t; decide +kernel
theorem off25_eq : k0_off25 t = wsOff 1 := by revert t; decide +kernel
theorem off28_eq : k0_off28 t = wsOff 0 := by revert t; decide +kernel

theorem off4_eq : k0_off4 c t = wOff 1 (pr c t.val) := by revert c t; decide +kernel
theorem off11_eq : k0_off11 c t = wOff 2 (pr c t.val) := by revert c t; decide +kernel
theorem off14_eq : k0_off14 c t = wOff 3 (pr c t.val) := by revert c t; decide +kernel
theorem off17_eq : k0_off17 c t = wOff 4 (pr c t.val) := by revert c t; decide +kernel
theorem off20_eq : k0_off20 c t = wOff 5 (pr c t.val) := by revert c t; decide +kernel
theorem off23_eq : k0_off23 c t = wOff 6 (pr c t.val) := by revert c t; decide +kernel
theorem off26_eq : k0_off26 c t = wOff 7 (pr c t.val) := by revert c t; decide +kernel
theorem off29_eq (h : t.val < 3) : k0_off29 c t = wOff 0 (pr c (t.val + 1)) := by revert c t; decide +kernel

/-- Step `r` of a trip waits on semaphore `r % 2`, -/
theorem off5_eq : ∀ r : Fin 8, k0_off5 t (BitVec.ofNat 32 r.val) = wqOff (Fin.ofNat 2 r.val) := by revert t; decide +kernel
/-- for slot `r % 2` -/
theorem off6_eq : ∀ r : Fin 8, k0_off6 t (BitVec.ofNat 32 r.val) = wsOff (Fin.ofNat 2 r.val) := by revert t; decide +kernel
/-- to have received block `r` of the trip's columns, -/
theorem off7_eq : ∀ r : Fin 8, k0_off7 c t (BitVec.ofNat 32 r.val) = wOff r (pr c t.val) := by revert c t; decide +kernel
/-- and loads that slot. -/
theorem off8_eq : ∀ r : Fin 8, k0_off8 t (BitVec.ofNat 32 r.val) = wsOff (Fin.ofNat 2 r.val) := by revert t; decide +kernel

theorem off30_eq : ∀ d : Fin 2, k0_off30 t (BitVec.ofNat 32 d.val) = slotOff (yj t.val d) := by revert t; decide +kernel
theorem off34_eq : ∀ d : Fin 2, k0_off34 t (BitVec.ofNat 32 d.val) = slotOff (yj t.val d) := by revert t; decide +kernel
theorem off31_eq : ∀ d : Fin 2, k0_off31 t (BitVec.ofNat 32 d.val) = semOff (yj t.val d) := by revert t; decide +kernel
theorem off32_eq : k0_off32 c = semOff c := k0_off32_eq c
theorem off33_eq : k0_off33 c = slotOff c := k0_off33_eq c

theorem cond1_eq : k0_cond1 t = 1#1 := by revert t; decide +kernel
theorem cond3_eq : k0_cond3 t = 1#1 := by revert t; decide +kernel
theorem cond5_eq : k0_cond5 t = 1#1 := by revert t; decide +kernel
theorem cond7_eq : k0_cond7 t = 1#1 := by revert t; decide +kernel
theorem cond9_eq : k0_cond9 t = 1#1 := by revert t; decide +kernel
theorem cond11_eq : k0_cond11 t = 1#1 := by revert t; decide +kernel
theorem cond13_eq : k0_cond13 t = 1#1 := by revert t; decide +kernel
theorem cond15_iff : k0_cond15 t = 1#1 ↔ t.val < 3 := by revert t; decide +kernel
/-- The condition "this is the first trip", as the words compute it. -/
theorem first_iff : Scalar.cmpi .ne (Scalar.extui (Scalar.cmpi .eq (Scf.iv 0#32 1#32 t.val) 0#32) : BitVec 32) 0#32 = 1#1 ↔ t.val = 0 := by
  revert t; decide +kernel

instance : ClosedOff (k0_off8 t 0#32) := ⟨wsOff 0, off8_eq t 0⟩
instance : ClosedOff (k0_off8 t 1#32) := ⟨wsOff 1, off8_eq t 1⟩
instance : ClosedOff (k0_off8 t 2#32) := ⟨wsOff 0, off8_eq t 2⟩
instance : ClosedOff (k0_off8 t 3#32) := ⟨wsOff 1, off8_eq t 3⟩
instance : ClosedOff (k0_off8 t 4#32) := ⟨wsOff 0, off8_eq t 4⟩
instance : ClosedOff (k0_off8 t 5#32) := ⟨wsOff 1, off8_eq t 5⟩
instance : ClosedOff (k0_off8 t 6#32) := ⟨wsOff 0, off8_eq t 6⟩
instance : ClosedOff (k0_off8 t 7#32) := ⟨wsOff 1, off8_eq t 7⟩
instance : ClosedOff (k0_off30 t 0#32) := ⟨slotOff (yj t.val 0), off30_eq t 0⟩
instance : ClosedOff (k0_off30 t 1#32) := ⟨slotOff (yj t.val 1), off30_eq t 1⟩

/-! ### The canonical names of the trip's slices -/

@[sl_canon] theorem semI0 (hh) : (cc0_scratch9.slice (Rect.unit (s := S2) (k0_off2 t) S1.size hh)).squeeze S_ squeezes_S1_S_ = wsS 1 := wsS_of (off2_eq t) _
@[sl_canon] theorem slotI0 (hh hs) : (wbM.slice (Rect.unit (s := S2x1024x1024) (k0_off3 t) S1x1024x1024.size hh) hs).squeeze S1024x1024 squeezes_S1x1024x1024_S1024x1024 = wsl 1 := wsl_of (off3_eq t) _ _
@[sl_canon] theorem blkI0 (hh hs) : wM.slice (Rect.unit (s := S8192x4096) (k0_off4 c t) S1024x1024.size hh) hs = wblk 1 (pr c t.val) := wblk_of (off4_eq c t) _ _
@[sl_canon] theorem semI1 (hh) : (cc0_scratch9.slice (Rect.unit (s := S2) (k0_off9 t) S1.size hh)).squeeze S_ squeezes_S1_S_ = wsS 0 := wsS_of (off9_eq t) _
@[sl_canon] theorem slotI1 (hh hs) : (wbM.slice (Rect.unit (s := S2x1024x1024) (k0_off10 t) S1x1024x1024.size hh) hs).squeeze S1024x1024 squeezes_S1x1024x1024_S1024x1024 = wsl 0 := wsl_of (off10_eq t) _ _
@[sl_canon] theorem blkI1 (hh hs) : wM.slice (Rect.unit (s := S8192x4096) (k0_off11 c t) S1024x1024.size hh) hs = wblk 2 (pr c t.val) := wblk_of (off11_eq c t) _ _
@[sl_canon] theorem semI2 (hh) : (cc0_scratch9.slice (Rect.unit (s := S2) (k0_off12 t) S1.size hh)).squeeze S_ squeezes_S1_S_ = wsS 1 := wsS_of (off12_eq t) _
@[sl_canon] theorem slotI2 (hh hs) : (wbM.slice (Rect.unit (s := S2x1024x1024) (k0_off13 t) S1x1024x1024.size hh) hs).squeeze S1024x1024 squeezes_S1x1024x1024_S1024x1024 = wsl 1 := wsl_of (off13_eq t) _ _
@[sl_canon] theorem blkI2 (hh hs) : wM.slice (Rect.unit (s := S8192x4096) (k0_off14 c t) S1024x1024.size hh) hs = wblk 3 (pr c t.val) := wblk_of (off14_eq c t) _ _
@[sl_canon] theorem semI3 (hh) : (cc0_scratch9.slice (Rect.unit (s := S2) (k0_off15 t) S1.size hh)).squeeze S_ squeezes_S1_S_ = wsS 0 := wsS_of (off15_eq t) _
@[sl_canon] theorem slotI3 (hh hs) : (wbM.slice (Rect.unit (s := S2x1024x1024) (k0_off16 t) S1x1024x1024.size hh) hs).squeeze S1024x1024 squeezes_S1x1024x1024_S1024x1024 = wsl 0 := wsl_of (off16_eq t) _ _
@[sl_canon] theorem blkI3 (hh hs) : wM.slice (Rect.unit (s := S8192x4096) (k0_off17 c t) S1024x1024.size hh) hs = wblk 4 (pr c t.val) := wblk_of (off17_eq c t) _ _
@[sl_canon] theorem semI4 (hh) : (cc0_scratch9.slice (Rect.unit (s := S2) (k0_off18 t) S1.size hh)).squeeze S_ squeezes_S1_S_ = wsS 1 := wsS_of (off18_eq t) _
@[sl_canon] theorem slotI4 (hh hs) : (wbM.slice (Rect.unit (s := S2x1024x1024) (k0_off19 t) S1x1024x1024.size hh) hs).squeeze S1024x1024 squeezes_S1x1024x1024_S1024x1024 = wsl 1 := wsl_of (off19_eq t) _ _
@[sl_canon] theorem blkI4 (hh hs) : wM.slice (Rect.unit (s := S8192x4096) (k0_off20 c t) S1024x1024.size hh) hs = wblk 5 (pr c t.val) := wblk_of (off20_eq c t) _ _
@[sl_canon] theorem semI5 (hh) : (cc0_scratch9.slice (Rect.unit (s := S2) (k0_off21 t) S1.size hh)).squeeze S_ squeezes_S1_S_ = wsS 0 := wsS_of (off21_eq t) _
@[sl_canon] theorem slotI5 (hh hs) : (wbM.slice (Rect.unit (s := S2x1024x1024) (k0_off22 t) S1x1024x1024.size hh) hs).squeeze S1024x1024 squeezes_S1x1024x1024_S1024x1024 = wsl 0 := wsl_of (off22_eq t) _ _
@[sl_canon] theorem blkI5 (hh hs) : wM.slice (Rect.unit (s := S8192x4096) (k0_off23 c t) S1024x1024.size hh) hs = wblk 6 (pr c t.val) := wblk_of (off23_eq c t) _ _
@[sl_canon] theorem semI6 (hh) : (cc0_scratch9.slice (Rect.unit (s := S2) (k0_off24 t) S1.size hh)).squeeze S_ squeezes_S1_S_ = wsS 1 := wsS_of (off24_eq t) _
@[sl_canon] theorem slotI6 (hh hs) : (wbM.slice (Rect.unit (s := S2x1024x1024) (k0_off25 t) S1x1024x1024.size hh) hs).squeeze S1024x1024 squeezes_S1x1024x1024_S1024x1024 = wsl 1 := wsl_of (off25_eq t) _ _
@[sl_canon] theorem blkI6 (hh hs) : wM.slice (Rect.unit (s := S8192x4096) (k0_off26 c t) S1024x1024.size hh) hs = wblk 7 (pr c t.val) := wblk_of (off26_eq c t) _ _
@[sl_canon] theorem semI7 (hh) : (cc0_scratch9.slice (Rect.unit (s := S2) (k0_off27 t) S1.size hh)).squeeze S_ squeezes_S1_S_ = wsS 0 := wsS_of (off27_eq t) _
@[sl_canon] theorem slotI7 (hh hs) : (wbM.slice (Rect.unit (s := S2x1024x1024) (k0_off28 t) S1x1024x1024.size hh) hs).squeeze S1024x1024 squeezes_S1x1024x1024_S1024x1024 = wsl 0 := wsl_of (off28_eq t) _ _
@[sl_canon] theorem semW0 (hh) : (cc0_scratch9.slice (Rect.unit (s := S2) (k0_off5 t 0#32) S1.size hh)).squeeze S_ squeezes_S1_S_ = wsS 0 := wsS_of (off5_eq t 0) _
@[sl_canon] theorem slotW0 (hh hs) : (wbM.slice (Rect.unit (s := S2x1024x1024) (k0_off6 t 0#32) S1x1024x1024.size hh) hs).squeeze S1024x1024 squeezes_S1x1024x1024_S1024x1024 = wsl 0 := wsl_of (off6_eq t 0) _ _
@[sl_canon] theorem semW1 (hh) : (cc0_scratch9.slice (Rect.unit (s := S2) (k0_off5 t 1#32) S1.size hh)).squeeze S_ squeezes_S1_S_ = wsS 1 := wsS_of (off5_eq t 1) _
@[sl_canon] theorem slotW1 (hh hs) : (wbM.slice (Rect.unit (s := S2x1024x1024) (k0_off6 t 1#32) S1x1024x1024.size hh) hs).squeeze S1024x1024 squeezes_S1x1024x1024_S1024x1024 = wsl 1 := wsl_of (off6_eq t 1) _ _
@[sl_canon] theorem semW2 (hh) : (cc0_scratch9.slice (Rect.unit (s := S2) (k0_off5 t 2#32) S1.size hh)).squeeze S_ squeezes_S1_S_ = wsS 0 := wsS_of (off5_eq t 2) _
@[sl_canon] theorem slotW2 (hh hs) : (wbM.slice (Rect.unit (s := S2x1024x1024) (k0_off6 t 2#32) S1x1024x1024.size hh) hs).squeeze S1024x1024 squeezes_S1x1024x1024_S1024x1024 = wsl 0 := wsl_of (off6_eq t 2) _ _
@[sl_canon] theorem semW3 (hh) : (cc0_scratch9.slice (Rect.unit (s := S2) (k0_off5 t 3#32) S1.size hh)).squeeze S_ squeezes_S1_S_ = wsS 1 := wsS_of (off5_eq t 3) _
@[sl_canon] theorem slotW3 (hh hs) : (wbM.slice (Rect.unit (s := S2x1024x1024) (k0_off6 t 3#32) S1x1024x1024.size hh) hs).squeeze S1024x1024 squeezes_S1x1024x1024_S1024x1024 = wsl 1 := wsl_of (off6_eq t 3) _ _
@[sl_canon] theorem semW4 (hh) : (cc0_scratch9.slice (Rect.unit (s := S2) (k0_off5 t 4#32) S1.size hh)).squeeze S_ squeezes_S1_S_ = wsS 0 := wsS_of (off5_eq t 4) _
@[sl_canon] theorem slotW4 (hh hs) : (wbM.slice (Rect.unit (s := S2x1024x1024) (k0_off6 t 4#32) S1x1024x1024.size hh) hs).squeeze S1024x1024 squeezes_S1x1024x1024_S1024x1024 = wsl 0 := wsl_of (off6_eq t 4) _ _
@[sl_canon] theorem semW5 (hh) : (cc0_scratch9.slice (Rect.unit (s := S2) (k0_off5 t 5#32) S1.size hh)).squeeze S_ squeezes_S1_S_ = wsS 1 := wsS_of (off5_eq t 5) _
@[sl_canon] theorem slotW5 (hh hs) : (wbM.slice (Rect.unit (s := S2x1024x1024) (k0_off6 t 5#32) S1x1024x1024.size hh) hs).squeeze S1024x1024 squeezes_S1x1024x1024_S1024x1024 = wsl 1 := wsl_of (off6_eq t 5) _ _
@[sl_canon] theorem semW6 (hh) : (cc0_scratch9.slice (Rect.unit (s := S2) (k0_off5 t 6#32) S1.size hh)).squeeze S_ squeezes_S1_S_ = wsS 0 := wsS_of (off5_eq t 6) _
@[sl_canon] theorem slotW6 (hh hs) : (wbM.slice (Rect.unit (s := S2x1024x1024) (k0_off6 t 6#32) S1x1024x1024.size hh) hs).squeeze S1024x1024 squeezes_S1x1024x1024_S1024x1024 = wsl 0 := wsl_of (off6_eq t 6) _ _
@[sl_canon] theorem semW7 (hh) : (cc0_scratch9.slice (Rect.unit (s := S2) (k0_off5 t 7#32) S1.size hh)).squeeze S_ squeezes_S1_S_ = wsS 1 := wsS_of (off5_eq t 7) _
@[sl_canon] theorem slotW7 (hh hs) : (wbM.slice (Rect.unit (s := S2x1024x1024) (k0_off6 t 7#32) S1x1024x1024.size hh) hs).squeeze S1024x1024 squeezes_S1x1024x1024_S1024x1024 = wsl 1 := wsl_of (off6_eq t 7) _ _
@[sl_canon] theorem semL0 (hh) : (cc0_scratch9.slice (Rect.unit (s := S2) ![0] S1.size hh)).squeeze S_ squeezes_S1_S_ = wsS 0 := wsS_of (s := 0) rfl _
@[sl_canon] theorem slotL0 (hh hs) : (wbM.slice (Rect.unit (s := S2x1024x1024) ![0, 0, 0] S1x1024x1024.size hh) hs).squeeze S1024x1024 squeezes_S1x1024x1024_S1024x1024 = wsl 0 := wsl_of (s := 0) rfl _ _
@[sl_canon] theorem blkL0 (hh hs) : wM.slice (Rect.unit (s := S8192x4096) (k0_off1 c) S1024x1024.size hh) hs = wblk 0 (pr c 0) := wblk_of (off1_eq c) _ _
@[sl_canon] theorem yslot0 (hh hs) : (ysM.slice (Rect.unit (s := S8x1024x512) (k0_off34 t 0#32) S1x1024x512.size hh) hs).squeeze S1024x512 squeezes_S1x1024x512_S1024x512 = ysl (yj t.val 0) := ysl_of (off34_eq t 0) _ _
@[sl_canon] theorem ysem0 (hh) : (cc0_scratch10.slice (Rect.unit (s := S8) (k0_off31 t 0#32) S1.size hh)).squeeze S_ squeezes_S1_S_ = sndS (yj t.val 0) := sndS_of (off31_eq t 0) _
@[sl_canon] theorem yslot1 (hh hs) : (ysM.slice (Rect.unit (s := S8x1024x512) (k0_off34 t 1#32) S1x1024x512.size hh) hs).squeeze S1024x512 squeezes_S1x1024x512_S1024x512 = ysl (yj t.val 1) := ysl_of (off34_eq t 1) _ _
@[sl_canon] theorem ysem1 (hh) : (cc0_scratch10.slice (Rect.unit (s := S8) (k0_off31 t 1#32) S1.size hh)).squeeze S_ squeezes_S1_S_ = sndS (yj t.val 1) := sndS_of (off31_eq t 1) _
@[sl_canon] theorem rslot (hh hs) : (rcM.slice (Rect.unit (s := S8x1024x512) (k0_off33 c) S1x1024x512.size hh) hs).squeeze S1024x512 squeezes_S1x1024x512_S1024x512 = rsl c := rsl_of (off33_eq c) _ _
@[sl_canon] theorem rsem (hh) : (cc0_scratch11.slice (Rect.unit (s := S8) (k0_off32 c) S1.size hh)).squeeze S_ squeezes_S1_S_ = rcvS c := rcvS_of (off32_eq c) _

end Chains

end Cert.KernelIdeal.Pf

end
-- ==== Proof.ValueKernelIdeal.lean ====
/-
# `KernelIdeal`: the block one device sends another

The value every block has, as plain operations on the casts of the device's rows of `x` and of the weights, and the
readings that bring what the kernel stores and loads on the way to that form.
-/
module

public import proofs.«01_k».proof.Proof.OffsKernelIdeal
public import Idealize.ShloMosaic.Lib.VecWindow
public import Idealize.ShloMosaic.Lib.Pipeline.Value

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

/-! ## The value -/

abbrev xOff (k : Fin 8) : Fin 2 → Nat := ![0, 1024 * k.val]
theorem xOff_inb (k : Fin 8) : ∀ a, xOff k a + S1024x1024.size a ≤ S1024x8192.size a := by revert k; decide
/-- Columns `1024 k …` of the device's rows of `x`. -/
abbrev xblk (k : Fin 8) : Memref sig .tc .hbm S1024x1024 .f32 :=
  xM.slice (Rect.unit (s := S1024x8192) (xOff k) S1024x1024.size (xOff_inb k)) (fun _ => rfl)

abbrev hOff (d : Fin 2) : Fin 2 → Nat := ![0, 512 * d.val]
theorem hOff_inb (d : Fin 2) : ∀ a, hOff d a + S1024x512.size a ≤ S1024x1024.size a := by revert d; decide
/-- Columns `512 d …` of a weight block. -/
def hf {α : Type} (d : Fin 2) (w : S1024x1024.Idx → α) : S1024x512.Idx → α :=
  fun y => w ((Rect.unit (s := S1024x1024) (hOff d) S1024x512.size (hOff_inb d)).emb y)

section Block
variable (XA : xM.view.ty.Contents (Elt F)) (WA : wM.view.ty.Contents (Elt F))

def xk (k : Fin 8) : FVec F S1024x1024 .bf16 := truncf .bf16 ((xblk k).view.read (Elt F) XA) bitsLt_bf16_f32
def wk (q : Fin 8) (p : Fin 4) : FVec F S1024x1024 .bf16 := truncf .bf16 ((wblk q p).view.read (Elt F) WA) bitsLt_bf16_f32
def mm (x : FVec F S1024x1024 .bf16) (w : FVec F S1024x512 .bf16) : FVec F S1024x512 .f32 :=
  matmul dot_S1024x1024_S1024x512_S1024x512_1_0_0_1_n_n none x w (constant S1024x512 .f32 0x00000000#32)
/-- The sum of the first `k + 1` products of column block `d` of pair `p`. -/
def acc (p : Fin 4) (d : Fin 2) : ℕ → FVec F S1024x512 .f32
  | 0 => mm (xk XA 0) (hf d (wk WA 0 p))
  | k + 1 => addf (acc p d k) (mm (xk XA (Fin.ofNat 8 (k + 1))) (hf d (wk WA (Fin.ofNat 8 (k + 1)) p)))
def silu (v : FVec F S1024x512 .f32) : FVec F S1024x512 .bf16 :=
  truncf .bf16 (mulf v (divf (broadcast S1024x512 (Scalar.ofBits .f32 0x3F800000#32))
    (addf (broadcast S1024x512 (Scalar.ofBits .f32 0x3F800000#32)) (exp (subf (broadcast S1024x512 (Scalar.ofBits .f32 0x00000000#32)) v))))) bitsLt_bf16_f32
/-- The block of pair `p`, column block `d`. -/
def blk (p : Fin 4) (d : Fin 2) : FVec F S1024x512 .bf16 := silu (acc XA WA p d 7)

end Block

/-- The pair and the column block of a device. -/
def prOf (p : Dev nD) : Fin 4 := ⟨p.val / 2, by have h : p.val < 8 := p.isLt; omega⟩
def dOf (p : Dev nD) : Fin 2 := ⟨p.val % 2, Nat.mod_lt _ (by decide)⟩
theorem prOf_tgt (c : Dev nD) (t : ℕ) (d : Fin 2) : prOf (tgt c t d) = pr c t := by
  apply Fin.ext; show (2 * ((c.val / 2 + t) % 4) + d.val) / 2 = (c.val / 2 + t) % 4; omega
theorem dOf_tgt (c : Dev nD) (t : ℕ) (d : Fin 2) : dOf (tgt c t d) = d := by
  apply Fin.ext; show (2 * ((c.val / 2 + t) % 4) + d.val) % 2 = d.val; omega

/-! ## Readings -/

section Readings

/-- A load of columns `512 d …` after a store of the whole buffer; -/
theorem readCov_wc {off : Fin 2 → ℕ} {d : Fin 2} (e : off = hOff d) (inb) (inb') (w : S1024x1024.Idx → Elt F .bf16) (L) :
    wcM.view.readCov (Val := Elt F) (⟨Rect.unit (s := S1024x1024) ![0, 0] S1024x1024.size inb, w⟩ :: L)
      (Rect.unit (s := S1024x1024) off S1024x512.size inb').toLoadRect = hf d w := by
  subst e
  funext y
  unfold View.readCov
  rw [View.readAt_apply, View.read_writes_full]
  rfl

/-- a load of an accumulator just stored, -/
theorem readCov_hit {off : Fin 3 → ℕ} (inb) (inb') (w : S1x1024x512.Idx → Elt F .f32) (L) :
    acM.view.readCov (Val := Elt F) (⟨Rect.unit (s := S2x1024x512) off S1x1024x512.size inb, w⟩ :: L)
      (Rect.unit (s := S2x1024x512) off S1x1024x512.size inb').toLoadRect = w := by
  funext y
  unfold View.readCov
  rw [View.readAt_apply]
  exact View.read_writes_cons_unit_of_mem _ _ _ _ _ _ y rfl fun a => by
    show off a + 1 * (y a).val = off a + (y a).val
    rw [Nat.one_mul]

/-- or of the other one. -/
theorem readCov_miss {a b : ℕ} (h : a ≠ b) (inb) (inb') (w : S1x1024x512.Idx → Elt F .f32) (L) :
    acM.view.readCov (Val := Elt F) (⟨Rect.unit (s := S2x1024x512) ![a, 0, 0] S1x1024x512.size inb, w⟩ :: L)
      (Rect.unit (s := S2x1024x512) ![b, 0, 0] S1x1024x512.size inb').toLoadRect
    = acM.view.readCov (Val := Elt F) L (Rect.unit (s := S2x1024x512) ![b, 0, 0] S1x1024x512.size inb').toLoadRect := by
  funext y
  unfold View.readCov
  rw [View.readAt_apply, View.readAt_apply]
  refine View.read_writes_cons_unit_of_not_mem _ _ _ _ _ _ rfl (0 : Fin 3) ?_
  have hy : (y 0).val < 1 := (y 0).isLt
  show b + 1 * (y 0).val < a ∨ a + 1 ≤ b + 1 * (y 0).val
  omega

/-- A load of a weight slot after the transfer into it. -/
theorem readAt_ws {off : Fin 3 → ℕ} {s : Fin 2} (e : off = wsOff s) (inb) (f : (wsl s).view.ty.Contents (Elt F)) (g : S1024x1024.Idx → Elt F .f32) (L) :
    wbM.view.readAt (Elt F) (Rect.unit (s := S2x1024x1024) off S1x1024x1024.size inb).toLoadRect
      ((wsl s).view.writes (Elt F) f (⟨Rect.whole S1024x1024, g⟩ :: L)) = shapeCast S1x1024x1024 g (by decide) := by
  subst e
  have h : (wsl s).view.read (Elt F) ((wsl s).view.writes (Elt F) f (⟨Rect.whole S1024x1024, g⟩ :: L)) = g := by
    funext y
    have h := View.read_writes_cons_emb (wsl s).view f (Rect.whole S1024x1024) g L y
    rwa [Rect.emb_whole_apply] at h
  have h' := Memref.read_squeeze_slice (Val := Elt F) wbM (Rect.unit (s := S2x1024x1024) (wsOff s) S1x1024x1024.size inb) (fun _ => rfl) squeezes_S1x1024x1024_S1024x1024
    shapeCasts_S1x1024x1024_S1024x1024 ((wsl s).view.writes (Elt F) f (⟨Rect.whole S1024x1024, g⟩ :: L))
  exact (shapeCast_shapeCast _ shapeCasts_S1x1024x1024_S1024x1024 (by decide)).symm.trans
    (congrArg (fun z => shapeCast S1x1024x1024 z (by decide)) (h'.symm.trans h))

/-- What a send slot holds after the store of the block into it. -/
theorem read_ys {off : Fin 3 → ℕ} {j : Fin 8} (e : off = slotOff j) (inb) (f : (ysM.access (Rect.unit (s := S8x1024x512) off S1x1024x512.size inb)).ty.Contents (Elt F))
    (w : S1x1024x512.Idx → Elt F .bf16) :
    (ysl j).view.read (Elt F) ((ysM.access (Rect.unit (s := S8x1024x512) off S1x1024x512.size inb)).write (Elt F) f w Finset.univ)
      = shapeCast S1024x512 w shapeCasts_S1x1024x512_S1024x512 := by
  subst e
  have h := Memref.read_slice_write (Val := Elt F) ysM inb rfl inb f w
  have h' := Memref.read_squeeze_slice (Val := Elt F) ysM (Rect.unit (s := S8x1024x512) (slotOff j) S1x1024x512.size inb) (fun _ => rfl) squeezes_S1x1024x512_S1024x512
    shapeCasts_S1x1024x512_S1024x512 ((ysM.access (Rect.unit (s := S8x1024x512) (slotOff j) S1x1024x512.size inb)).write (Elt F) f w Finset.univ)
  exact h'.trans (congrArg (fun z => shapeCast S1024x512 z shapeCasts_S1x1024x512_S1024x512) h)

/-- A load of the whole `x` buffer after the transfer into it. -/
theorem readAt_xin (inb) (f : xinM.view.ty.Contents (Elt F)) (g : S1024x1024.Idx → Elt F .f32) (L) :
    xinM.view.readAt (Elt F) (Rect.unit (s := S1024x1024) ![0, 0] S1024x1024.size inb).toLoadRect
      (xinM.view.writes (Elt F) f (⟨Rect.whole S1024x1024, g⟩ :: L)) = g := by
  rw [View.readAt_full]
  funext y
  have h := View.read_writes_cons_emb xinM.view f (Rect.whole S1024x1024) g L y
  rwa [Rect.emb_whole_apply] at h

/-- A load of the columns of `x` just stored, -/
theorem readAt_xb_hit {off : Fin 2 → ℕ} (inb) (inb') (f : xbM.view.ty.Contents (Elt F)) (w : S1024x1024.Idx → Elt F .bf16) (L) :
    xbM.view.readAt (Elt F) (Rect.unit (s := S1024x8192) off S1024x1024.size inb').toLoadRect
      (xbM.view.writes (Elt F) f (⟨Rect.unit (s := S1024x8192) off S1024x1024.size inb, w⟩ :: L)) = w := by
  funext y
  rw [View.readAt_apply]
  exact View.read_writes_cons_unit_of_mem _ _ _ _ _ _ y rfl fun a => by
    show off a + 1 * (y a).val = off a + (y a).val
    rw [Nat.one_mul]

/-- or of others. -/
theorem readAt_xb_miss {a b : ℕ} (h : b + 1024 ≤ a ∨ a + 1024 ≤ b) (inb) (inb') (f : xbM.view.ty.Contents (Elt F)) (w : S1024x1024.Idx → Elt F .bf16) (L) :
    xbM.view.readAt (Elt F) (Rect.unit (s := S1024x8192) ![0, b] S1024x1024.size inb').toLoadRect
      (xbM.view.writes (Elt F) f (⟨Rect.unit (s := S1024x8192) ![0, a] S1024x1024.size inb, w⟩ :: L))
    = xbM.view.readAt (Elt F) (Rect.unit (s := S1024x8192) ![0, b] S1024x1024.size inb').toLoadRect (xbM.view.writes (Elt F) f L) := by
  funext y
  rw [View.readAt_apply, View.readAt_apply]
  refine View.read_writes_cons_unit_of_not_mem _ _ _ _ _ _ rfl (1 : Fin 2) ?_
  have hy : (y 1).val < 1024 := (y 1).isLt
  show b + 1 * (y 1).val < a ∨ a + 1024 ≤ b + 1 * (y 1).val
  omega

end Readings

/-! ## The two accumulators -/

section Accumulate
variable (XA : xM.view.ty.Contents (Elt F)) (WA : wM.view.ty.Contents (Elt F)) (p : Fin 4)

abbrev up {α : Type} (v : S1024x512.Idx → α) : S1x1024x512.Idx → α := shapeCast S1x1024x512 v shapeCasts_S1024x512_S1x1024x512
abbrev down {α : Type} (v : S1x1024x512.Idx → α) : S1024x512.Idx → α := shapeCast S1024x512 v shapeCasts_S1x1024x512_S1024x512
theorem down_up {α : Type} (v : S1024x512.Idx → α) : down (up v) = v := shapeCast_shapeCast v _ _

/-- The kernel's addition of one product to an accumulator. -/
abbrev addTo (x : FVec F S1024x1024 .bf16) (w : FVec F S1024x512 .bf16) (a : FVec F S1x1024x512 .f32) : FVec F S1x1024x512 .f32 := up (addf (down a) (mm x w))
/-- The kernel's cast of a weight block. -/
abbrev castW (g : S1x1024x1024.Idx → Elt F .f32) : FVec F S1024x1024 .bf16 :=
  shapeCast S1024x1024 (truncf .bf16 (shapeCast S1024x1024 g shapeCasts_S1x1024x1024_S1024x1024) bitsLt_bf16_f32) shapeCasts_S1024x1024_S1024x1024

/-- The load of accumulator `d`; -/
abbrev ldAc (L : List ((r : Rect S2x1024x512) × (r.shape.Idx → Elt F .f32))) (off : Fin 3 → ℕ) (inb : ∀ a, off a + S1x1024x512.size a ≤ S2x1024x512.size a) : S1x1024x512.Idx → Elt F .f32 :=
  acM.view.readCov (Val := Elt F) L (Rect.unit (s := S2x1024x512) off S1x1024x512.size inb).toLoadRect
/-- the load of half a cast block. -/
abbrev ldWc (L : List ((r : Rect S1024x1024) × (r.shape.Idx → Elt F .bf16))) (off : Fin 2 → ℕ) (inb : ∀ a, off a + S1024x512.size a ≤ S1024x1024.size a) : S1024x512.Idx → Elt F .bf16 :=
  wcM.view.readCov (Val := Elt F) L (Rect.unit (s := S1024x1024) off S1024x512.size inb).toLoadRect

/-- Both accumulators hold the sum of the first `n + 1` products. -/
def AcAt (L : List ((r : Rect S2x1024x512) × (r.shape.Idx → Elt F .f32))) (n : ℕ) : Prop :=
  ldAc L ![0, 0, 0] inb_S2x1024x512_S1x1024x512_0_0_0 = up (acc XA WA p 0 n) ∧ ldAc L ![1, 0, 0] inb_S2x1024x512_S1x1024x512_1_0_0 = up (acc XA WA p 1 n)
/-- The two halves of block `q` of the weights are there. -/
def WcAt (q : Fin 8) (L : List ((r : Rect S1024x1024) × (r.shape.Idx → Elt F .bf16))) : Prop :=
  ldWc L ![0, 0] inb_S1024x1024_S1024x512_0_0 = hf 0 (wk WA q p) ∧ ldWc L ![0, 512] inb_S1024x1024_S1024x512_0_512 = hf 1 (wk WA q p)

/-- The block transferred into a slot, cast and stored. -/
theorem WcAt.stored (t : Fin k0_t1_loop.trips) (q : Fin 8) {inb inb' f L L'} :
    WcAt WA p q (⟨Rect.unit (s := S1024x1024) ![0, 0] S1024x1024.size inb', castW (wbM.view.readAt (Elt F) (Rect.unit (s := S2x1024x1024) (k0_off8 t (BitVec.ofNat 32 q.val)) S1x1024x1024.size inb).toLoadRect
      ((wsl (Fin.ofNat 2 q.val)).view.writes (Elt F) f (⟨Rect.whole S1024x1024, ReadAs.same.apply ((wblk q p).view.read (Elt F) WA)⟩ :: L)))⟩ :: L') := by
  have h : castW (wbM.view.readAt (Elt F) (Rect.unit (s := S2x1024x1024) (k0_off8 t (BitVec.ofNat 32 q.val)) S1x1024x1024.size inb).toLoadRect
      ((wsl (Fin.ofNat 2 q.val)).view.writes (Elt F) f (⟨Rect.whole S1024x1024, ReadAs.same.apply ((wblk q p).view.read (Elt F) WA)⟩ :: L))) = wk WA q p := by
    refine (congrArg castW (readAt_ws (off8_eq t q) inb f _ L)).trans ?_
    exact (shapeCast_self _ _).trans (congrArg (fun z => truncf .bf16 z bitsLt_bf16_f32) (shapeCast_shapeCast _ _ shapeCasts_S1x1024x1024_S1024x1024))
  exact ⟨(readCov_wc (d := 0) rfl inb' _ _ L').trans (congrArg (hf 0) h), (readCov_wc (d := 1) rfl inb' _ _ L').trans (congrArg (hf 1) h)⟩

theorem AcAt.first {x : FVec F S1024x1024 .bf16} (hx : xk XA 0 = x) {Lw} (hw : WcAt WA p 0 Lw) {i0 i1 j0 j1 L} :
    AcAt XA WA p (⟨Rect.unit (s := S2x1024x512) ![1, 0, 0] S1x1024x512.size i1, up (mm x (ldWc Lw ![0, 512] j1))⟩
      :: ⟨Rect.unit (s := S2x1024x512) ![0, 0, 0] S1x1024x512.size i0, up (mm x (ldWc Lw ![0, 0] j0))⟩ :: L) 0 := by
  subst hx
  refine ⟨(readCov_miss (by decide) _ _ _ _).trans ((readCov_hit _ _ _ _).trans ?_), (readCov_hit _ _ _ _).trans ?_⟩
  · exact congrArg (fun z => up (mm (xk XA 0) z)) hw.1
  · exact congrArg (fun z => up (mm (xk XA 0) z)) hw.2

theorem AcAt.next {n : ℕ} {x : FVec F S1024x1024 .bf16} (hx : xk XA (Fin.ofNat 8 (n + 1)) = x) {Lw} (hw : WcAt WA p (Fin.ofNat 8 (n + 1)) Lw) {L} {i0 i1 j0 j1 k0 k1}
    (h : AcAt XA WA p L n) :
    AcAt XA WA p (⟨Rect.unit (s := S2x1024x512) ![1, 0, 0] S1x1024x512.size i1, addTo x (ldWc Lw ![0, 512] j1)
        (ldAc (⟨Rect.unit (s := S2x1024x512) ![0, 0, 0] S1x1024x512.size i0, addTo x (ldWc Lw ![0, 0] j0) (ldAc L ![0, 0, 0] k0)⟩ :: L) ![1, 0, 0] k1)⟩
      :: ⟨Rect.unit (s := S2x1024x512) ![0, 0, 0] S1x1024x512.size i0, addTo x (ldWc Lw ![0, 0] j0) (ldAc L ![0, 0, 0] k0)⟩ :: L) (n + 1) := by
  subst hx
  have h1 := (readCov_miss (a := 0) (b := 1) (by decide) i0 k1 (addTo (xk XA (Fin.ofNat 8 (n + 1))) (ldWc Lw ![0, 0] j0) (ldAc L ![0, 0, 0] k0)) L).trans h.2
  refine ⟨(readCov_miss (by decide) _ _ _ _).trans ((readCov_hit _ _ _ _).trans ?_), (readCov_hit _ _ _ _).trans ?_⟩
  · exact (congrArg₂ (addTo _) hw.1 h.1).trans (congrArg (fun z => up (addf z _)) (down_up _))
  · exact (congrArg₂ (addTo _) hw.2 h1).trans (congrArg (fun z => up (addf z _)) (down_up _))

/-- The kernel's last step: what it sends. -/
abbrev outOf (a : FVec F S1x1024x512 .f32) : FVec F S1x1024x512 .bf16 := up (silu (down a))
theorem AcAt.block0 {off : Fin 3 → ℕ} {j : Fin 8} (e : off = slotOff j) {L inb f k} (h : AcAt XA WA p L 7) :
    (ysl j).view.read (Elt F) ((ysM.access (Rect.unit (s := S8x1024x512) off S1x1024x512.size inb)).write (Elt F) f (outOf (ldAc L ![0, 0, 0] k)) Finset.univ) = blk XA WA p 0 :=
  (read_ys e inb f _).trans ((congrArg (fun z => down (outOf z)) h.1).trans ((down_up _).trans (congrArg silu (down_up _))))
theorem AcAt.block1 {off : Fin 3 → ℕ} {j : Fin 8} (e : off = slotOff j) {L inb f k} (h : AcAt XA WA p L 7) :
    (ysl j).view.read (Elt F) ((ysM.access (Rect.unit (s := S8x1024x512) off S1x1024x512.size inb)).write (Elt F) f (outOf (ldAc L ![1, 0, 0] k)) Finset.univ) = blk XA WA p 1 :=
  (read_ys e inb f _).trans ((congrArg (fun z => down (outOf z)) h.2).trans ((down_up _).trans (congrArg silu (down_up _))))

/-- The kernel's cast of the columns of `x` just transferred. -/
theorem cast_xin {k : Fin 8} {inb f L} : xk XA k = shapeCast S1024x1024 (truncf .bf16 (xinM.view.readAt (Elt F) (Rect.unit (s := S1024x1024) ![0, 0] S1024x1024.size inb).toLoadRect
      (xinM.view.writes (Elt F) f (⟨Rect.whole S1024x1024, ReadAs.same.apply ((xblk k).view.read (Elt F) XA)⟩ :: L))) bitsLt_bf16_f32) shapeCasts_S1024x1024_S1024x1024 :=
  ((shapeCast_self _ _).trans (congrArg (fun z => truncf .bf16 z bitsLt_bf16_f32) (readAt_xin inb f _ L))).symm

theorem cast_cov {k : Fin 8} {inx L} : xk XA k = shapeCast S1024x1024 (truncf .bf16 (xinM.view.readCov (Val := Elt F)
      (⟨Rect.whole S1024x1024, ReadAs.same.apply ((xblk k).view.read (Elt F) XA)⟩ :: L) (Rect.unit (s := S1024x1024) ![0, 0] S1024x1024.size inx).toLoadRect) bitsLt_bf16_f32)
      shapeCasts_S1024x1024_S1024x1024 := cast_xin XA

/-- In the first trip the cast is stored first and loaded from there. -/
theorem xb_cov {k : Fin 8} {off : Fin 2 → ℕ} {inb inb' inx L L'} : xk XA k = xbM.view.readCov (Val := Elt F)
      (⟨Rect.unit (s := S1024x8192) off S1024x1024.size inb,
        shapeCast S1024x1024 (truncf .bf16 (xinM.view.readCov (Val := Elt F) (⟨Rect.whole S1024x1024, ReadAs.same.apply ((xblk k).view.read (Elt F) XA)⟩ :: L)
          (Rect.unit (s := S1024x1024) ![0, 0] S1024x1024.size inx).toLoadRect) bitsLt_bf16_f32) shapeCasts_S1024x1024_S1024x1024⟩ :: L')
      (Rect.unit (s := S1024x8192) off S1024x1024.size inb').toLoadRect :=
  (cast_cov XA).trans (readAt_xb_hit _ _ _ _ _).symm

end Accumulate

/-! ## The casts of the device's rows of `x` -/

section Rows
variable (XA : xM.view.ty.Contents (Elt F))

/-- The buffer holds the casts of the device's rows of `x`. -/
def XbAt (f : xbM.view.ty.Contents (Elt F)) : Prop :=
  ∀ k : Fin 8, xbM.view.readAt (Elt F) (Rect.unit (s := S1024x8192) (xOff k) S1024x1024.size (xOff_inb k)).toLoadRect f = xk XA k

/-- The first `n` blocks of columns are there. -/
def XbTo (n : ℕ) (f : xbM.view.ty.Contents (Elt F)) : Prop :=
  ∀ k : Fin 8, k.val < n → xbM.view.readAt (Elt F) (Rect.unit (s := S1024x8192) (xOff k) S1024x1024.size (xOff_inb k)).toLoadRect f = xk XA k
theorem XbTo.none (f : xbM.view.ty.Contents (Elt F)) : XbTo XA 0 f := fun _ h => absurd h (Nat.not_lt_zero _)
theorem XbTo.next {n : ℕ} (hn : n < 8) {f L w inb} (hw : xk XA (Fin.ofNat 8 n) = w) (h : XbTo XA n (xbM.view.writes (Elt F) f L)) :
    XbTo XA (n + 1) (xbM.view.writes (Elt F) f (⟨Rect.unit (s := S1024x8192) ![0, 1024 * n] S1024x1024.size inb, w⟩ :: L)) := by
  intro k hk
  by_cases hkn : k.val = n
  · subst hkn
    rw [show Fin.ofNat 8 k.val = k from Fin.ext (Nat.mod_eq_of_lt hn)] at hw
    exact (readAt_xb_hit inb (xOff_inb k) f w L).trans hw.symm
  · exact (readAt_xb_miss (.inl (by omega)) inb (xOff_inb k) f w L).trans (h k (by omega))
theorem XbTo.all {f : xbM.view.ty.Contents (Elt F)} (h : XbTo XA 8 f) : XbAt XA f := fun k => h k k.isLt

end Rows

end Cert.KernelIdeal.Pf

end
-- ==== Proof.GhostKernelIdeal.lean ====
/-
# `KernelIdeal`: what a device holds during the loop

The loop's invariant — where the weight transfers, the device's rows of `x` and the eight sends stand before trip `t` —
and the rule of one send.
-/
module

public import proofs.«01_k».proof.Proof.ValueKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (V : Dev nD → Dev nD → S1024x512.Idx → Elt F .bf16) (K : Dev nD × Kd → ℕ)

/-! ## The records every device shares -/

def records : sProp 𝕄 :=
  iprop((bigSep Finset.univ fun ck : Dev nD × Kd => cellInv ER (sched V) (K ck) (kcell ck))
    ∗ bigSep Finset.univ fun ck : Dev nD × Kd => reached ER (kcell ck) 0)
instance records_persistent : BI.Persistent (records V K) := by unfold records; infer_instance
theorem inv_at (ck : Dev nD × Kd) : records V K ⊢ cellInv ER (sched V) (K ck) (kcell ck) := by
  have h : (bigSep Finset.univ fun ck : Dev nD × Kd => (cellInv ER (sched V) (K ck) (kcell ck) : sProp 𝕄)) ⊢ cellInv ER (sched V) (K ck) (kcell ck) :=
    bigSep_elim (Finset.mem_univ ck)
  unfold records; iintro ⟨#HI, -⟩; iapply h; iexact HI
theorem reached_at (ck : Dev nD × Kd) : records V K ⊢ reached ER (kcell ck) 0 := by
  have h : (bigSep Finset.univ fun ck : Dev nD × Kd => (reached ER (kcell ck) 0 : sProp 𝕄)) ⊢ reached ER (kcell ck) 0 := bigSep_elim (Finset.mem_univ ck)
  unfold records; iintro ⟨-, #HI⟩; iapply h; iexact HI

section Device
variable (c : Dev nD) (XA : Buf (Elt F) (xM.view.loc (c : Thread nD τ))) (WA : Buf (Elt F) (wM.view.loc (c : Thread nD τ)))

/-! ## One send -/

/-- Send slot `j` holding the block `v`. -/
def ysV (j : Fin 8) (v : S1024x512.Idx → Elt F .bf16) : sProp 𝕄 := iprop(∃ f, ⌜(ysl j).view.read (Elt F) f = v⌝ ∗ ysP c j f)

theorem wp_send_blk (t : ℕ) (d : Fin 2) (n : Dev nD) (hn : n = tgt c t d)
    {hsc : (rsl c : Memref sig (Dev.tc n : Thread nD τ).2.kind .vmem S1024x512 .bf16).view.ref.isScScratch = false}
    {hsrc : (ysl (yj t d)).view.WordExact} {hdst : (rsl c).view.WordExact}
    {hsem : DmaTarget.Typed .vmem (.dma (rcvS c).sem) (.remote (Dev.tc n : Thread nD τ) (rsl c : Memref sig .tc .vmem S1024x512 .bf16) (.dma (sndS (yj t d)).sem) hsc)}
    {α : Type} {Q : α → sProp 𝕄} {k : PUnit → Prog (TpuEff nD τ sig (Elt F) Λ₀ .tc) α} (O : CellTallies nD τ sig Unit) (W : Waits sig Unit) :
    iprop(records V K ∗ ysV c (yj t d) (V c (tgt c t d)) ∗ (∃ f, rsP (tgt c t d) c f)
        ∗ owes (c : Thread nD τ) (O + tallyAt (rcvCell (tgt c t d) c) () N) W
        ∗ dutyTok ER (sndCell c (yj t d)) 0 0 ∗ dutyTok ER (rcvCell (tgt c t d) c) 0 0)
      ⊢ iprop(((cred (tallyAt (sndCell c (yj t d)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ysl (yj t d)) (.remote (Dev.tc n : Thread nD τ) (rsl c) (.dma (sndS (yj t d)).sem) hsc) (.dma (rcvS c).sem) hsrc hdst hsem) k) Q) := by
  subst hn
  unfold ysV
  iintro ⟨#HR, ⟨%fs, %hfs, Hy⟩, ⟨%fn, Hr⟩, HO, Ht, Ht'⟩ Hk
  ihave #HI1 := (inv_at V K (c, .inr (true, yj t d))) $$ HR
  ihave #HI2 := (inv_at V K (tgt c t d, .inr (false, c))) $$ HR
  ihave #HR1 := (reached_at V K (c, .inr (true, yj t d))) $$ HR
  ihave #HR2 := (reached_at V K (tgt c t d, .inr (false, c))) $$ HR
  iapply (Rounds.wp_send_pointsTo 𝒱₀ ER (sched V) (c : Thread nD τ) none (κ₁ := K (c, .inr (true, yj t d))) (κ₂ := K (tgt c t d, .inr (false, c)))
    (r₁ := 0) (r₂ := 0) (d₁ := 0) (d₂ := 0) (fs := fs) (fd := fn)
    (by rw [duties_cell V c (.inr (true, yj t d))]; exact Finset.mem_singleton_self _)
    (by rw [duties_cell V (tgt c t d) (.inr (false, c))]; exact Finset.mem_singleton_self _)
    () () N rfl (amount_cell V c (.inr (true, yj t d)) 0 0) (amount_cell V (tgt c t d) (.inr (false, c)) 0 0) O rfl (W := W)
    (by rw [payload_cell V c (.inr (true, yj t d))]; show _ ⊢ sndPay c (yj t d); unfold sndPay; iintro H; iexists fs; iexact H)
    (by
      rw [payload_cell V (tgt c t d) (.inr (false, c))]; show _ ⊢ rcvPay V (tgt c t d) c; unfold rcvPay
      iintro H; iexists _; isplitr; rotate_left; · iexact H
      ipureintro; rw [View.read_write_univ]; exact hfs)) $$ [Hy Hr HO Ht Ht']
  · isplitr; · iexact HI1
    isplitr; · iexact HI2
    isplitl [Hy]; · iexact Hy
    isplitl [Hr]; · iexact Hr
    isplitl [HO]; · iexact HO
    isplitl [Ht]; · iexact Ht
    isplitr; · iexact HR1
    isplitl [Ht']; · iexact Ht'
    iexact HR2
  iexact Hk

/-! ## Before trip `t` -/

abbrev own {sp : Space} {s : Shape} {dt : _} (A : Memref sig .tc sp s dt) (f : Buf (Elt F) (A.view.loc (c : Thread nD τ))) : sProp 𝕄 :=
  A.view.loc (c : Thread nD τ) ↦[A.view.set]{fullShare} f
abbrev zero (A : DmaSems sig S_) : sProp 𝕄 := semVal ((c : Thread nD τ), SemLoc.dma A.sem) 0
abbrev tok (i : ℕ) : PosShare TreeShare := Transfers.shareTokN fullShare i

abbrev landed (s : Fin 2) (q : Fin 8) (p : Fin 4) (f : Buf (Elt F) ((wsl s).view.loc (c : Thread nD τ))) : Buf (Elt F) ((wsl s).view.loc (c : Thread nD τ)) :=
  (wsl s).view.writes (Elt F) f [⟨Rect.whole S1024x1024, ReadAs.same.apply ((wblk q p).view.read (Elt F) WA)⟩]
/-- The transfer of weight block `(q, p)` into slot `s`, under way. -/
abbrev wflight (s : Fin 2) (n : ℕ) (q : Fin 8) (p : Fin 4) (f : Buf (Elt F) ((wsl s).view.loc (c : Thread nD τ))) : sProp 𝕄 :=
  Transfers.Flight countersEmb (c : Thread nD τ) (SemLoc.dma (wsS s).sem) () 131072
    iprop(((wsl s).view.loc (c : Thread nD τ) ↦[(wsl s).view.set]{fullShare} landed c WA s q p f)
      ∗ (wM.view.loc (c : Thread nD τ) ↦[(wblk q p).view.set]{tok n} WA))
/-- The first block of trip `t` is under way while there is a trip `t`. -/
def wState (t : ℕ) : sProp 𝕄 :=
  if t < 4 then iprop((∃ f0, wflight c WA 0 1 0 (pr c t) f0) ∗ (wM.view.loc (c : Thread nD τ) ↦[Finset.univ \ (wblk 0 (pr c t)).view.set]{tok 1} WA))
  else iprop((∃ f0, ((wsl 0).view.loc (c : Thread nD τ) ↦[(wsl 0).view.set]{fullShare} f0)) ∗ zero c (wsS 0) ∗ (wM.view.loc (c : Thread nD τ) ↦{tok 1} WA))

/-- The transfer the loop starts last, as the invariant's. -/
theorem wflight_next {off : Fin 2 → ℕ} {q : Fin 8} {p : Fin 4} (e : off = wOff q p) (s : Fin 2) (n : ℕ) {inb : ∀ a, off a + S1024x1024.size a ≤ S8192x4096.size a} {f L} :
    iprop(Transfers.Flight countersEmb (c : Thread nD τ) (SemLoc.dma (wsS s).sem) () 131072
        iprop(((wsl s).view.loc (c : Thread nD τ) ↦[(wsl s).view.set]{fullShare} (wsl s).view.writes (Elt F) f
            (⟨Rect.whole S1024x1024, ReadAs.same.apply ((wM.slice (Rect.unit (s := S8192x4096) off S1024x1024.size inb) (fun _ => rfl)).view.read (Elt F) WA)⟩ :: L))
          ∗ (wM.view.loc (c : Thread nD τ) ↦[(wM.slice (Rect.unit (s := S8192x4096) off S1024x1024.size inb) (fun _ => rfl)).view.set]{tok n} WA))
        ∗ (wM.view.loc (c : Thread nD τ) ↦[Finset.univ \ (wM.slice (Rect.unit (s := S8192x4096) off S1024x1024.size inb) (fun _ => rfl)).view.set]{tok n} WA))
      ⊢ iprop((∃ f0, wflight c WA s n q p f0) ∗ (wM.view.loc (c : Thread nD τ) ↦[Finset.univ \ (wblk q p).view.set]{tok n} WA)) := by
  subst e
  iintro ⟨HF, H⟩
  isplitl [HF]
  · iexists ((wsl s).view.writes (Elt F) f L); iexact HF
  iexact H

abbrev xblk0 : Memref sig .tc .hbm S1024x1024 .f32 :=
  xM.slice (Rect.unit (s := S1024x8192) ![0, 0] S1024x1024.size inb_S1024x8192_S1024x1024_0_0) (fun _ => rfl)
/-- The transfer of the first columns of `x`, under way. -/
abbrev xflight (f : Buf (Elt F) (xinM.view.loc (c : Thread nD τ))) : sProp 𝕄 :=
  Transfers.Flight countersEmb (c : Thread nD τ) (SemLoc.dma (cc0_scratch8 : DmaSems sig S_).sem) () 131072
    iprop((xinM.view.loc (c : Thread nD τ) ↦[xinM.view.set]{fullShare} xinM.view.writes (Elt F) f [⟨Rect.whole S1024x1024, ReadAs.same.apply (xblk0.view.read (Elt F) XA)⟩])
      ∗ (xM.view.loc (c : Thread nD τ) ↦[xblk0.view.set]{fullShare} XA))
def xStart : sProp 𝕄 :=
  iprop((∃ f, xflight c XA f) ∗ (xM.view.loc (c : Thread nD τ) ↦[Finset.univ \ xblk0.view.set]{fullShare} XA) ∗ ∃ f, own c xbM f)
def xDone : sProp 𝕄 :=
  iprop((xM.view.loc (c : Thread nD τ) ↦{fullShare} XA) ∗ zero c cc0_scratch8 ∗ (∃ f, own c xinM f) ∗ ∃ f, ⌜XbAt XA f⌝ ∗ own c xbM f)
/-- The casts of the device's rows of `x` are there from the second trip on. -/
def xState (t : ℕ) : sProp 𝕄 := if t = 0 then xStart c XA else xDone c XA

/-- What trip `i` sends from, to and with; -/
def sendPre (i : ℕ) : sProp 𝕄 :=
  iprop((∃ f, ysP c (yj i 0) f) ∗ (∃ f, ysP c (yj i 1) f) ∗ (∃ f, rsP (tgt c i 0) c f) ∗ (∃ f, rsP (tgt c i 1) c f)
    ∗ dutyTok ER (sndCell c (yj i 0)) 0 0 ∗ dutyTok ER (rcvCell (tgt c i 0) c) 0 0
    ∗ dutyTok ER (sndCell c (yj i 1)) 0 0 ∗ dutyTok ER (rcvCell (tgt c i 1) c) 0 0)
/-- what it leaves. -/
def sendPost (i : ℕ) : sProp 𝕄 :=
  iprop(cred (tallyAt (sndCell c (yj i 0)) () N) ∗ cred (tallyAt (sndCell c (yj i 1)) () N))
def sends (t : ℕ) : sProp 𝕄 := bigSep Finset.univ fun i : Fin 4 => if t ≤ i.val then sendPre c i.val else sendPost c i.val

theorem sends_step (t : ℕ) (ht : t < 4) : (sends c t : sProp 𝕄) ⊢ iprop(sendPre c t ∗ (sendPost c t -∗ sends c (t + 1))) := by
  unfold sends
  rw [bigSep_univ_at (fun i : Fin 4 => if t ≤ i.val then (sendPre c i.val : sProp 𝕄) else sendPost c i.val) ⟨t, ht⟩,
    bigSep_univ_at (fun i : Fin 4 => if t + 1 ≤ i.val then (sendPre c i.val : sProp 𝕄) else sendPost c i.val) ⟨t, ht⟩,
    if_pos (Nat.le_refl _), if_neg (show ¬ t + 1 ≤ t by omega),
    bigSep_congr (s := Finset.univ.erase (⟨t, ht⟩ : Fin 4)) (Φ := fun i : Fin 4 => if t + 1 ≤ i.val then (sendPre c i.val : sProp 𝕄) else sendPost c i.val)
      (Ψ := fun i : Fin 4 => if t ≤ i.val then (sendPre c i.val : sProp 𝕄) else sendPost c i.val) fun i hi => by
        have h : i.val ≠ t := fun e => (Finset.mem_erase.mp hi).1 (Fin.ext e)
        have h' : (t + 1 ≤ i.val) ↔ (t ≤ i.val) := by omega
        exact if_congr h' rfl rfl]
  iintro ⟨H, Hr⟩
  isplitl [H]; · iexact H
  iintro H
  isplitl [H] <;> iassumption

/-- What the loop holds of the buffers it overwrites every trip. -/
def work : sProp 𝕄 :=
  iprop((wM.view.loc (c : Thread nD τ) ↦{tok 2} WA) ∗ (∃ f1, ((wsl 1).view.loc (c : Thread nD τ) ↦[(wsl 1).view.set]{fullShare} f1)) ∗ zero c (wsS 1)
    ∗ (∃ f, own c wcM f) ∗ ∃ f, own c acM f)

/-- The loop's invariant, before trip `t`. -/
def Inv (t : ℕ) : sProp 𝕄 :=
  iprop(records V K ∗ levAts L lv ∗ wState c WA t ∗ xState c XA t ∗ work c WA ∗ sends c t ∗ ∃ W, owes (c : Thread nD τ) (rcvOwe c (4 - t)) W)

/-! ## The trip's program -/

abbrev trip (v2 : BitVec 32) (t : Fin k0_t1_loop.trips) : Prog (TpuEff nD τ sig (Elt F) Λ₀ .tc) Unit :=
  k0_t1_body (F := F) xM (Memref.isWhole_whole _) wM (Memref.isWhole_whole _) outM (Memref.isWhole_whole _) xbM (Memref.isWhole_whole _) xinM (Memref.isWhole_whole _)
    ysM (Memref.isWhole_whole _) rcM (Memref.isWhole_whole _) stM (Memref.isWhole_whole _) wbM (Memref.isWhole_whole _) wcM (Memref.isWhole_whole _) acM (Memref.isWhole_whole _)
    cc0_scratch8 cc0_scratch9 cc0_scratch10 cc0_scratch11 cc0_scratch12 cc0_scoped0 c v2 t ()

theorem first_pos {t : Fin k0_t1_loop.trips} (h : t.val = 0) :
    Scalar.cmpi .ne (Scalar.extui (Scalar.cmpi .eq (Scf.iv 0#32 1#32 t.val) 0#32) : BitVec 32) 0#32 = 1#1 := (first_iff t).mpr h
theorem first_neg {t : Fin k0_t1_loop.trips} (h : ¬ t.val = 0) :
    ¬ Scalar.cmpi .ne (Scalar.extui (Scalar.cmpi .eq (Scf.iv 0#32 1#32 t.val) 0#32) : BitVec 32) 0#32 = 1#1 := fun e => h ((first_iff t).mp e)

end Device

end Cert.KernelIdeal.Pf

end
-- ==== Proof.RulesKernelIdeal.lean ====
/-
# `KernelIdeal`: the steps that touch a shared semaphore

The signal and the wait of each of the two barriers, and the waits on a receive and on a send semaphore. A wait closes its
semaphore: the device holds its counter again, at zero.
-/
module

public import proofs.«01_k».proof.Proof.GhostKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Eight pieces, taken one by one from the first -/

/-- The last `n` of the eight pieces. -/
def chain {M : Type} [URA M] (Φ : Fin 8 → sProp M) : ℕ → sProp M
  | 0 => iprop(emp)
  | n + 1 => iprop(Φ (Fin.ofNat 8 (7 - n)) ∗ chain Φ n)
theorem chain_succ {M : Type} [URA M] (Φ : Fin 8 → sProp M) (n : ℕ) : chain Φ (n + 1) = iprop(Φ (Fin.ofNat 8 (7 - n)) ∗ chain Φ n) := rfl
theorem chain_eq {M : Type} [URA M] (Φ : Fin 8 → sProp M) : bigSep Finset.univ Φ = chain Φ 8 :=
  (bigSep_univ_eq_bigSepL [0, 1, 2, 3, 4, 5, 6, 7] (by decide) (by decide) Φ).trans (by simp only [bigSepL_cons]; rfl)
theorem chain_intro {M : Type} [URA M] (Φ : Fin 8 → sProp M) : iprop(Φ 0 ∗ Φ 1 ∗ Φ 2 ∗ Φ 3 ∗ Φ 4 ∗ Φ 5 ∗ Φ 6 ∗ Φ 7) ⊢ chain Φ 8 := by
  rw [← chain_eq]
  exact Entails.of_eq (bigSep_univ_eq_bigSepL [0, 1, 2, 3, 4, 5, 6, 7] (by decide) (by decide) Φ).symm

variable (V : Dev nD → Dev nD → S1024x512.Idx → Elt F .bf16) (K : Dev nD × Kd → ℕ) (c : Dev nD)

/-- The duties left on the barrier semaphores, each with the slot it hands over; -/
abbrev barTok (p : Dev nD) : sProp 𝕄 := iprop(dutyTok ER (barCell p) 0 c ∗ ∃ f, rsP c p f)
/-- on the closing ones. -/
abbrev finTok (p : Dev nD) : sProp 𝕄 := iprop(dutyTok ER (finCell p) 0 c)

section Steps
variable {α : Type} {k : PUnit → Prog (TpuEff nD τ sig (Elt F) Λ₀ .tc) α} {W : Waits sig Unit}

theorem wp_bar_signal (n : ℕ) {Q : α → sProp 𝕄} {p : Dev nD} (hp : p = Fin.ofNat 8 (7 - n)) {a : ℤ} (ha : a = 1) :
    iprop(records V K ∗ owes (c : Thread nD τ) (barOwe c (n + 1)) W ∗ chain (barTok c) (n + 1))
      ⊢ iprop(((owes (c : Thread nD τ) (barOwe c n) W ∗ chain (barTok c) n) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS a) k) Q) := by
  subst hp ha
  rw [chain_succ]
  iintro ⟨#HR, HO, ⟨Ht, Hs⟩, Hc⟩ Hk
  ihave #HI := (inv_at V K (Fin.ofNat 8 (7 - n), .inl true)) $$ HR
  ihave #Hr := (reached_at V K (Fin.ofNat 8 (7 - n), .inl true)) $$ HR
  iapply (Rounds.wp_signal 𝒱₀ ER (sched V) (c : Thread nD τ) none (dst := ((Fin.ofNat 8 (7 - n) : Dev nD) : Thread nD τ)) (κ := K (Fin.ofNat 8 (7 - n), .inl true))
      (r := 0) (d := c) (by rw [duties_cell V (Fin.ofNat 8 (7 - n)) (.inl true)]; exact Finset.mem_univ _) (amount_cell V (Fin.ofNat 8 (7 - n)) (.inl true) 0 c) () (barOwe c n) rfl) $$ [HO Ht Hs]
  · isplitr; · iexact HI
    isplitl [HO]; · iexact HO
    isplitl [Ht]; · iexact Ht
    isplitl [Hs]
    · iapply (Entails.of_eq (show iprop(∃ f, rsP c (Fin.ofNat 8 (7 - n)) f) = _ from (payload_cell V (Fin.ofNat 8 (7 - n)) (.inl true) 0 c).symm)); iexact Hs
    iexact Hr
  iintro HO
  iapply Hk
  isplitl [HO] <;> iassumption

theorem wp_fin_signal (n : ℕ) {Q : α → sProp 𝕄} {p : Dev nD} (hp : p = Fin.ofNat 8 (7 - n)) {a : ℤ} (ha : a = 1) :
    iprop(records V K ∗ owes (c : Thread nD τ) (finOwe (n + 1)) W ∗ chain (finTok c) (n + 1))
      ⊢ iprop(((owes (c : Thread nD τ) (finOwe n) W ∗ chain (finTok c) n) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) finS a) k) Q) := by
  subst hp ha
  rw [chain_succ]
  iintro ⟨#HR, HO, Ht, Hc⟩ Hk
  ihave #HI := (inv_at V K (Fin.ofNat 8 (7 - n), .inl false)) $$ HR
  ihave #Hr := (reached_at V K (Fin.ofNat 8 (7 - n), .inl false)) $$ HR
  iapply (Rounds.wp_signal 𝒱₀ ER (sched V) (c : Thread nD τ) none (dst := ((Fin.ofNat 8 (7 - n) : Dev nD) : Thread nD τ)) (κ := K (Fin.ofNat 8 (7 - n), .inl false))
      (r := 0) (d := c) (by rw [duties_cell V (Fin.ofNat 8 (7 - n)) (.inl false)]; exact Finset.mem_univ _) (amount_cell V (Fin.ofNat 8 (7 - n)) (.inl false) 0 c) () (finOwe n) rfl) $$ [HO Ht]
  · isplitr; · iexact HI
    isplitl [HO]; · iexact HO
    isplitl [Ht]; · iexact Ht
    isplitr
    · iapply (Entails.of_eq (show iprop(emp) = _ from (payload_cell V (Fin.ofNat 8 (7 - n)) (.inl false) 0 c).symm)); iempintro
    iexact Hr
  iintro HO
  iapply Hk
  isplitl [HO] <;> iassumption

/-- What a wait on the shared semaphore of kind `ck` takes; -/
abbrev waiting (ck : Kd) (n : ℕ) : sProp 𝕄 := iprop(atPos ER (kcell (c, ck)) 0 ∅ 0 ∗ cred (tallyAt (kcell (c, ck)) () n))

/-- the wait, the semaphore closed after it. -/
theorem wp_wait_kind (ck : Kd) {Q : α → sProp 𝕄} {P : sProp 𝕄} {O : CellTallies nD τ sig Unit} {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (csem ck) n R)
    (hn : (sched V).expect (kcell (c, ck)) 0 = n)
    (hP : bigSep ((sched V).duties (kcell (c, ck)) 0 \ ∅) (fun d => (sched V).payload (kcell (c, ck)) 0 d) = P)
    (hO : Above (lvK (some ck) + 1) O) :
    iprop(records V K ∗ levAts L lv ∗ owes (c : Thread nD τ) O W ∗ waiting c ck n)
      ⊢ iprop(((owes (c : Thread nD τ) O (insert (csem ck, ()) W) ∗ semVal (kcell (c, ck)) 0 ∗ P) -∗ wp frame (wpE (defs₀ (F := F)) 𝒱₀ (c : Thread nD τ) none) Set.univ (k ⟨⟩) Q) -∗ wp frame (wpE (defs₀ (F := F)) 𝒱₀ (c : Thread nD τ) none) Set.univ (.op w k) Q) := by
  iintro ⟨#HR, #HL, HO, Hat, Hcr⟩ Hk
  ihave #HI := (inv_at V K (c, ck)) $$ HR
  iapply (Rounds.wp_wait_rest_token 𝒱₀ ER (sched V) (c : Thread nD τ) none (κ := K (c, ck)) hw (Set.mem_univ _) () (O := O) (W := W) (R := 0) (m := 0) (T := ∅)
      (by rw [Nat.zero_add]; exact hn.symm)) $$ [Hcr HO Hat]
  · isplitr; · iexact HI
    isplitl [Hcr]; · iexact Hcr
    isplitl [HO]; · iexact HO
    isplitr
    · iapply (mayWait_of_above c (csem ck) (lvK (some ck) + 1) (by rw [kind_csem]; exact Nat.lt_succ_self _) hO); iexact HL
    iexact Hat
  iintro ⟨HO, Hat, -, Hpay⟩
  ihave Hp := (Entails.of_eq hP) $$ Hpay
  imod (Rounds.cell_close ER (sched V) (Set.mem_univ (K (c, ck))) (fun h => h) (R := 0 + 1) (duties_later V (kcell (c, ck)))) $$ [Hat] with Hz
  · isplitr; · iexact HI
    iexact Hat
  iapply Hk
  isplitl [HO]; · iexact HO
  isplitl [Hz] <;> iassumption

theorem wp_bar_wait {Q : α → sProp 𝕄} {a : ℤ} (ha : a = 8) :
    iprop(records V K ∗ levAts L lv ∗ owes (c : Thread nD τ) (rcvOwe c 4) W ∗ waiting c (.inl true) 8)
      ⊢ iprop(((owes (c : Thread nD τ) (rcvOwe c 4) (insert (SemLoc.reg barS, ()) W) ∗ semVal (barCell c) 0 ∗ bigSep Finset.univ (barPay (F := F) c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  exact wp_wait_kind V K c (.inl true) (wpE_semWait_eq 𝒱₀ (c : Thread nD τ) none Set.univ) (expect_reg V c true) (rest_bar V c) (above_rcv c 4)

theorem wp_fin_wait {Q : α → sProp 𝕄} {a : ℤ} (ha : a = 8) :
    iprop(records V K ∗ levAts L lv ∗ owes (c : Thread nD τ) 0 W ∗ waiting c (.inl false) 8)
      ⊢ iprop(((owes (c : Thread nD τ) 0 (insert (SemLoc.reg finS, ()) W) ∗ semVal (finCell c) 0 ∗ emp) -∗ wp frame (wpE (defs₀ (F := F)) 𝒱₀ (c : Thread nD τ) none) Set.univ (k ⟨⟩) Q)
          -∗ wp frame (wpE (defs₀ (F := F)) 𝒱₀ (c : Thread nD τ) none) Set.univ (.op (.semWait finS a) k) Q) := by
  subst ha
  refine wp_wait_kind V K c (.inl false) (wpE_semWait_eq 𝒱₀ (c : Thread nD τ) none Set.univ) (expect_reg V c false) ?_ (Above.zero _)
  exact (bigSep_congr fun d _ => payload_cell V c (.inl false) 0 d).trans (bigSep_emp_const _)

section Dma
variable {sp : Space} {s' : Shape} {e' : EltTy} {src : Memref sig .tc sp s' e'} {dst : Memref sig .tc .vmem S1024x512 .bf16}
  {hsrc : src.view.WordExact} {hdst : dst.view.WordExact} {sem : DmaSem sig}

theorem wp_rcv_wait (s : Fin 8) {Q : α → sProp 𝕄} (hs : sem = (rcvS s).sem) (hd : dst.view.dmaCredit = N) :
    iprop(records V K ∗ levAts L lv ∗ owes (c : Thread nD τ) (finOwe 8) W ∗ waiting c (.inr (false, s)) N)
      ⊢ iprop(((owes (c : Thread nD τ) (finOwe 8) (insert (SemLoc.dma (rcvS s).sem, ()) W) ∗ semVal (rcvCell c s) 0 ∗ rcvPay V c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  exact wp_wait_kind V K c (.inr (false, s)) (fun R => (wpE_waitDma2_eq 𝒱₀ (c : Thread nD τ) none Set.univ R).trans (by rw [hd])) (expect_dma V c (false, s)) (rest_rcv V c s) (above_fin 8)

theorem wp_snd_wait (j : Fin 8) {Q : α → sProp 𝕄} (hs : sem = (sndS j).sem) (hd : dst.view.dmaCredit = N) :
    iprop(records V K ∗ levAts L lv ∗ owes (c : Thread nD τ) (finOwe 8) W ∗ waiting c (.inr (true, j)) N)
      ⊢ iprop(((owes (c : Thread nD τ) (finOwe 8) (insert (SemLoc.dma (sndS j).sem, ()) W) ∗ semVal (sndCell c j) 0 ∗ sndPay (F := F) c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  exact wp_wait_kind V K c (.inr (true, j)) (fun R => (wpE_waitDma2_eq 𝒱₀ (c : Thread nD τ) none Set.univ R).trans (by rw [hd])) (expect_dma V c (true, j)) (rest_snd V c j) ((above_fin 8).mono (show 0 + 1 ≤ 3 by decide))
end Dma

end Steps

end Cert.KernelIdeal.Pf

end
-- ==== Proof.OutKernelIdeal.lean ====
/-
# `KernelIdeal`: the result's rows, and what a device's run leaves

Each block received is loaded, widened to `f32` in the stage buffer and written to its rows of the result.
-/
module

public import proofs.«01_k».proof.Proof.RulesKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev oOff (s : Fin 8) : Fin 2 → Nat := ![1024 * s.val, 0]
theorem oOff_inb (s : Fin 8) : ∀ a, oOff s a + S1024x512.size a ≤ S8192x512.size a := by revert s; decide
/-- A block as it goes into the result. -/
abbrev wide (v : FVec F S1024x512 .bf16) : FVec F S1024x512 .f32 := extf .f32 v bitsLt_bf16_f32

/-- A reading of the rows just written, -/
theorem readAt_out_hit {off : Fin 2 → ℕ} (inb) (inb') (f : outM.view.ty.Contents (Elt F)) (w : S1024x512.Idx → Elt F .f32) (L) :
    outM.view.readAt (Elt F) (Rect.unit (s := S8192x512) off S1024x512.size inb').toLoadRect
      (outM.view.writes (Elt F) f (⟨Rect.unit (s := S8192x512) off S1024x512.size inb, w⟩ :: L)) = w := by
  funext y
  rw [View.readAt_apply]
  exact View.read_writes_cons_unit_of_mem _ _ _ _ _ _ y rfl fun a => by
    show off a + 1 * (y a).val = off a + (y a).val
    rw [Nat.one_mul]
/-- or of others. -/
theorem readAt_out_miss {a b : ℕ} (h : b + 1024 ≤ a ∨ a + 1024 ≤ b) (inb) (inb') (f : outM.view.ty.Contents (Elt F)) (w : S1024x512.Idx → Elt F .f32) (L) :
    outM.view.readAt (Elt F) (Rect.unit (s := S8192x512) ![b, 0] S1024x512.size inb').toLoadRect
      (outM.view.writes (Elt F) f (⟨Rect.unit (s := S8192x512) ![a, 0] S1024x512.size inb, w⟩ :: L))
    = outM.view.readAt (Elt F) (Rect.unit (s := S8192x512) ![b, 0] S1024x512.size inb').toLoadRect (outM.view.writes (Elt F) f L) := by
  funext y
  rw [View.readAt_apply, View.readAt_apply]
  refine View.read_writes_cons_unit_of_not_mem _ _ _ _ _ _ rfl (0 : Fin 2) ?_
  have hy : (y 0).val < 1024 := (y 0).isLt
  show b + 1 * (y 0).val < a ∨ a + 1024 ≤ b + 1 * (y 0).val
  omega

section Rows
variable (B : Fin 8 → FVec F S1024x512 .bf16)

/-- Rows `1024 s …` of the result. -/
abbrev rowsOf (s : Fin 8) (f : outM.view.ty.Contents (Elt F)) : S1024x512.Idx → Elt F .f32 :=
  outM.view.readAt (Elt F) (Rect.unit (s := S8192x512) (oOff s) S1024x512.size (oOff_inb s)).toLoadRect f
/-- The result holds block `s` at rows `1024 s …`, for the first `n` blocks. -/
def OutTo (n : ℕ) (f : outM.view.ty.Contents (Elt F)) : Prop := ∀ s : Fin 8, s.val < n → rowsOf s f = wide (B s)
theorem OutTo.none (f : outM.view.ty.Contents (Elt F)) : OutTo B 0 f := fun _ h => absurd h (Nat.not_lt_zero _)
theorem OutTo.next {n : ℕ} (hn : n < 8) {f L w inb} (hw : wide (B (Fin.ofNat 8 n)) = w) (h : OutTo B n (outM.view.writes (Elt F) f L)) :
    OutTo B (n + 1) (outM.view.writes (Elt F) f (⟨Rect.unit (s := S8192x512) ![1024 * n, 0] S1024x512.size inb, w⟩ :: L)) := by
  intro s hs
  by_cases hsn : s.val = n
  · subst hsn
    rw [show Fin.ofNat 8 s.val = s from Fin.ext (Nat.mod_eq_of_lt hn)] at hw
    exact (readAt_out_hit inb (oOff_inb s) f w L).trans hw.symm
  · exact (readAt_out_miss (by omega) inb (oOff_inb s) f w L).trans (h s (by omega))

/-- What the stage buffer passes on of the block received in slot `s`. -/
theorem stage_val {s : Fin 8} {v : FVec F S1024x512 .bf16} {g : (rsl s).view.ty.Contents (Elt F)} (hg : (rsl s).view.read (Elt F) g = v)
    {off : Fin 3 → ℕ} (e : off = slotOff s) {f L inb inb'} :
    wide v = ReadAs.same.apply (stM.view.read (Elt F) (stM.view.writes (Elt F) f (⟨Rect.unit (s := S1024x512) ![0, 0] S1024x512.size inb,
      shapeCast S1024x512 (wide (shapeCast S1024x512 (rcM.view.readAt (Elt F) (Rect.unit (s := S8x1024x512) off S1x1024x512.size inb').toLoadRect g)
        shapeCasts_S1x1024x512_S1024x512)) shapeCasts_S1024x512_S1024x512⟩ :: L))) := by
  subst e hg
  have h' := Memref.read_squeeze_slice (Val := Elt F) rcM (Rect.unit (s := S8x1024x512) (slotOff s) S1x1024x512.size inb') (fun _ => rfl) squeezes_S1x1024x512_S1024x512
    shapeCasts_S1x1024x512_S1024x512 g
  have h2 := View.read_writes_full stM.view f inb (shapeCast S1024x512 (wide (shapeCast S1024x512 (rcM.view.readAt (Elt F) (Rect.unit (s := S8x1024x512) (slotOff s) S1x1024x512.size inb').toLoadRect g)
        shapeCasts_S1x1024x512_S1024x512)) shapeCasts_S1024x512_S1024x512) L
  refine Eq.trans ?_ h2.symm
  refine Eq.trans ?_ (shapeCast_self _ _).symm
  exact congrArg wide h'

end Rows

variable (V : Dev nD → Dev nD → S1024x512.Idx → Elt F .bf16)
variable (c : Dev nD) (XA : Buf (Elt F) (xM.view.loc (c : Thread nD τ))) (WA : Buf (Elt F) (wM.view.loc (c : Thread nD τ)))

/-- What the kernel's transfers of its own go by. -/
def zeros : sProp 𝕄 := iprop(zero c cc0_scratch8 ∗ zero c (wsS 0) ∗ zero c (wsS 1) ∗ zero c cc0_scratch12)
/-- The local buffers, at whatever contents. -/
def bufs : sProp 𝕄 :=
  iprop((∃ f, own c xbM f) ∗ (∃ f, own c xinM f) ∗ (∃ f, own c stM f) ∗ (∃ f0, ((wsl 0).view.loc (c : Thread nD τ) ↦[(wsl 0).view.set]{fullShare} f0))
    ∗ (∃ f1, ((wsl 1).view.loc (c : Thread nD τ) ↦[(wsl 1).view.set]{fullShare} f1)) ∗ (∃ f, own c wcM f) ∗ ∃ f, own c acM f)
def args : sProp 𝕄 :=
  iprop((xM.view.loc (c : Thread nD τ) ↦{fullShare} XA) ∗ (wM.view.loc (c : Thread nD τ) ↦{tok 1} WA) ∗ (wM.view.loc (c : Thread nD τ) ↦{tok 2} WA))

/-- What a device's run leaves: every semaphore at zero, the buffers whole, the arguments as they were, the result. -/
def bodyEnd : sProp 𝕄 :=
  iprop(semVal (barCell c) 0 ∗ semVal (finCell c) 0 ∗ chain (fun s => semVal (rcvCell c s) 0) 8 ∗ chain (fun j => semVal (sndCell c j) 0) 8
    ∗ zeros c ∗ chain (fun s => iprop(∃ f, rsP c s f)) 8 ∗ chain (sndPay c) 8 ∗ bufs c ∗ args c XA WA
    ∗ (∃ f, ⌜OutTo (fun s => V s c) 8 f⌝ ∗ (outM.view.loc (c : Thread nD τ) ↦{fullShare} f)) ∗ ∃ W, owes (c : Thread nD τ) 0 W)

end Cert.KernelIdeal.Pf

end
-- ==== Proof.SetupKernelIdeal.lean ====
/-
# `KernelIdeal`: what the launch deals the devices

The semaphores the devices share, each a cell of the schedule; the duties, dealt from the cell they are of to the device
that pays them; and the credits, from what every device owes at the start. Then the buffers the kernel uses by slots, cut
and put together again.
-/
module

public import proofs.«01_k».proof.Proof.OutKernelIdeal
public import Idealize.ShloMosaic.Lib.Ring

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Everything of a kind, kind by kind -/

theorem bigSep_bool {M : Type} [URA M] (Φ : Bool → sProp M) : bigSep Finset.univ Φ = iprop(Φ true ∗ Φ false) :=
  bigSep_univ_eq_bigSepL [true, false] (by decide) (by decide) Φ
theorem bigSep_one {M : Type} [URA M] (Φ : Unit → sProp M) : bigSep Finset.univ Φ = Φ () :=
  bigSep_univ_eq_bigSepL [()] (by decide) (by decide) Φ
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_range3 {M : Type} [URA M] (Φ : ℕ → sProp M) : bigSep (Finset.range 3) Φ = iprop(Φ 0 ∗ Φ 1 ∗ Φ 2) :=
  bigSep_eq_bigSepL_of_eq [0, 1, 2] (by decide) (by decide) Φ
theorem bigSep_lot {M : Type} [URA M] {α : Type} [Fintype α] (Φ : Bool × α → sProp M) :
    bigSep Finset.univ Φ = iprop((bigSep Finset.univ fun a => Φ (true, a)) ∗ bigSep Finset.univ fun a => Φ (false, a)) := by
  rw [bigSep_univ_prod, bigSep_bool]
theorem bigSep_kind {M : Type} [URA M] (Φ : Kd → sProp M) : bigSep Finset.univ Φ
    = iprop((Φ (.inl true) ∗ Φ (.inl false)) ∗ bigSep Finset.univ fun bj => Φ (.inr bj)) := by
  rw [bigSep_univ_sum, bigSep_bool]; rfl

/-! ## The semaphores -/

/-- The kernel's own: the closing one, the sends' and the receives', and the four its local transfers go by. -/
abbrev Own : Type := (Unit ⊕ (Bool × Fin 8)) ⊕ Fin 4
abbrev osem : Own → SemLoc sig
  | .inl (.inl _) => .reg finS
  | .inl (.inr bj) => csem (.inr bj)
  | .inr 0 => .dma (cc0_scratch8 : DmaSems sig S_).sem
  | .inr 1 => .dma (wsS 0).sem
  | .inr 2 => .dma (wsS 1).sem
  | .inr 3 => .dma (cc0_scratch12 : DmaSems sig S_).sem
theorem ownSemFacts : Pipeline.OwnSemFacts cfg0.spec osem := by decide +kernel

theorem ownSems_eq (c : Dev nD) : (Pipeline.ownSems0 (Ix := Unit) (Name := ℕ) (U := UU) (Lvl := ℕ) (Val := Elt F) (τ := τ) osem c : sProp 𝕄)
    = iprop((semVal (finCell c) 0 ∗ bigSep Finset.univ fun bj : Bool × Fin 8 => semVal (kcell (c, .inr bj)) 0) ∗ zeros c) := by
  unfold Pipeline.ownSems0 zeros
  rw [bigSep_univ_sum, bigSep_univ_sum, bigSep_one, bigSep_four]; rfl
theorem unscopedSems_eq (c : Dev nD) : (unscopedSems0 c : sProp 𝕄) = semVal (barCell c) 0 := by
  unfold unscopedSems0; rw [bigSep_eq_bigSepL_of_eq [SemLoc.reg barS] (by decide) (by decide)]; rfl

/-- Every shared semaphore of `c` at zero. -/
abbrev cells0 (c : Dev nD) : sProp 𝕄 := bigSep Finset.univ fun k : Kd => semVal (kcell (c, k)) 0

theorem sems_split (c : Dev nD) :
    iprop(Pipeline.ownSems0 (Ix := Unit) (Name := ℕ) (U := UU) (Lvl := ℕ) (Val := Elt F) (τ := τ) osem c ∗ unscopedSems0 c) ⊢ iprop(cells0 c ∗ zeros c : sProp 𝕄) := by
  unfold cells0
  rw [ownSems_eq, unscopedSems_eq, bigSep_kind]
  iintro ⟨⟨⟨Hf, Hd⟩, Hz⟩, Hb⟩
  isplitr [Hz]
  · isplitr [Hd]
    · isplitl [Hb]; · iexact Hb
      iexact Hf
    iexact Hd
  iexact Hz
theorem sems_join (c : Dev nD) :
    iprop(cells0 c ∗ zeros c : sProp 𝕄) ⊢ iprop(unscopedSems0 c ∗ Pipeline.ownSems0 (Ix := Unit) (Name := ℕ) (U := UU) (Lvl := ℕ) (Val := Elt F) (τ := τ) osem c) := by
  unfold cells0
  rw [ownSems_eq, unscopedSems_eq, bigSep_kind]
  iintro ⟨⟨⟨Hb, Hf⟩, Hd⟩, Hz⟩
  isplitl [Hb]; · iexact Hb
  isplitr [Hz]
  · isplitl [Hf]; · iexact Hf
    iexact Hd
  iexact Hz

/-! ## The duties -/

def cells : Finset (GSem nD τ sig) := Finset.univ.map ⟨kcell, kcell_injective⟩
/-- The duties of a device's cells: every device's on its two barriers, its own and one sender's on the transfers'. -/
abbrev Duty : Type := (Bool × Dev nD) ⊕ (Bool × Fin 8)
abbrev dutyOf : Dev nD × Duty → GSem nD τ sig × ℕ × Dev nD
  | (c, .inl (b, d)) => (kcell (c, .inl b), 0, d)
  | (c, .inr bj) => (kcell (c, .inr bj), 0, 0)
theorem dutyOf_injective : Function.Injective dutyOf := by
  rintro ⟨c, ⟨b, d⟩ | bj⟩ ⟨c', ⟨b', d'⟩ | bj'⟩ h
  · have h1 : ((c, .inl b) : Dev nD × Kd) = (c', .inl b') := kcell_injective (congrArg Prod.fst h)
    have h2 : d = d' := congrArg (fun x : GSem nD τ sig × ℕ × Dev nD => x.2.2) h
    cases h1; cases h2; rfl
  · have h1 : ((c, .inl b) : Dev nD × Kd) = (c', .inr bj') := kcell_injective (congrArg Prod.fst h)
    cases h1
  · have h1 : ((c, .inr bj) : Dev nD × Kd) = (c', .inl b') := kcell_injective (congrArg Prod.fst h)
    cases h1
  · have h1 : ((c, .inr bj) : Dev nD × Kd) = (c', .inr bj') := kcell_injective (congrArg Prod.fst h)
    cases h1; rfl
def duties : Finset (GSem nD τ sig × ℕ × Dev nD) := Finset.univ.map ⟨dutyOf, dutyOf_injective⟩

/-- The launch's element. -/
def u₀ : UU := (initOf (Pipeline.cells cfgs cellOf_inj) (Pipeline.launchToks cfgs cellOf_inj), (initOf cells duties, 1))

theorem ownU_three (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The duties of `c`'s cells, -/
def dutiesAt (c : Dev nD) : sProp 𝕄 :=
  iprop(((bigSep Finset.univ fun d : Dev nD => dutyTok ER (barCell c) 0 d) ∗ bigSep Finset.univ fun d : Dev nD => dutyTok ER (finCell c) 0 d)
    ∗ (bigSep Finset.univ fun j : Fin 8 => dutyTok ER (sndCell c j) 0 0) ∗ bigSep Finset.univ fun s : Dev nD => dutyTok ER (rcvCell c s) 0 0)
/-- the duties `c` pays. -/
def dutiesBy (c : Dev nD) : sProp 𝕄 :=
  iprop(((bigSep Finset.univ fun p : Dev nD => dutyTok ER (barCell p) 0 c) ∗ bigSep Finset.univ fun p : Dev nD => dutyTok ER (finCell p) 0 c)
    ∗ (bigSep Finset.univ fun j : Fin 8 => dutyTok ER (sndCell c j) 0 0) ∗ bigSep Finset.univ fun p : Dev nD => dutyTok ER (rcvCell p c) 0 0)

theorem duties_dealt : (bigSep Finset.univ fun c : Dev nD => (dutiesAt c : sProp 𝕄)) ⊢ bigSep Finset.univ fun c : Dev nD => dutiesBy c := by
  unfold dutiesAt dutiesBy
  simp only [bigSep_sep']
  rw [bigSep_univ_comm fun (c : Dev nD) (d : Dev nD) => (dutyTok ER (barCell c) 0 d : sProp 𝕄),
    bigSep_univ_comm fun (c : Dev nD) (d : Dev nD) => (dutyTok ER (finCell c) 0 d : sProp 𝕄),
    bigSep_univ_comm fun (c : Dev nD) (d : Dev nD) => (dutyTok ER (rcvCell c d) 0 0 : sProp 𝕄)]

section Schedule
variable (V : Dev nD → Dev nD → S1024x512.Idx → Elt F .bf16)

/-- What the launch's element deals device `c`. -/
def G (c : Dev nD) : sProp 𝕄 :=
  iprop((bigSep Finset.univ fun k : Kd => roundState ER (sched V) (kcell (c, k)) 0)
    ∗ ((bigSep Finset.univ fun k : Kd => atPos ER (kcell (c, k)) 0 ∅ 0) ∗ bigSep Finset.univ fun k : Kd => reached ER (kcell (c, k)) 0) ∗ dutiesAt c)

theorem G_intro : BI.own (ER (initOf cells duties)) ⊢ (|==> bigSep Finset.univ (G V) : sProp 𝕄) := by
  have hX (Φ : GSem nD τ sig → sProp 𝕄) : bigSep cells Φ = bigSep Finset.univ fun c : Dev nD => bigSep Finset.univ fun k : Kd => Φ (kcell (c, k)) := by
    unfold cells; rw [bigSep_map, bigSep_univ_prod]; rfl
  have hT : bigSep duties (fun x => (dutyTok ER x.1 x.2.1 x.2.2 : sProp 𝕄)) = bigSep Finset.univ fun c : Dev nD => dutiesAt c := by
    unfold duties; rw [bigSep_map, bigSep_univ_prod]
    exact bigSep_congr fun c _ => by unfold dutiesAt; rw [bigSep_univ_sum, bigSep_lot, bigSep_lot]; rfl
  iintro HX
  imod (Rounds.fund ER (sched V) cells duties) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- What stays with `c` alone. -/
def alone (c : Dev nD) : sProp 𝕄 := iprop((bigSep Finset.univ fun k : Kd => atPos ER (kcell (c, k)) 0 ∅ 0) ∗ dutiesBy c)
/-- What each device has of the schedule. -/
def G' (c : Dev nD) : sProp 𝕄 := iprop((∃ K, records V K ∗ alone c) ∗ zeros c)

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : Kd => iprop(∃ κ : ℕ, cellInv ER (sched V) κ (kcell (c, k))))
          ∗ ((bigSep Finset.univ fun k : Kd => atPos ER (kcell (c, k)) 0 ∅ 0) ∗ bigSep Finset.univ fun k : Kd => reached ER (kcell (c, k)) 0) ∗ dutiesAt c ∗ zeros c) := by
  unfold G
  iintro ⟨Hos, Hus, Hst, Hat, Htok⟩
  ihave Hv := (sems_split (F := F) c) $$ [Hos Hus]
  · isplitl [Hos] <;> iassumption
  icases Hv with ⟨Hv, Hz⟩
  imod (show iprop((bigSep Finset.univ fun k : Kd => semVal (kcell (c, k)) 0) ∗ bigSep Finset.univ fun k : Kd => roundState ER (sched V) (kcell (c, k)) 0)
      ⊢ (|={Set.univ}=> bigSep Finset.univ fun k : Kd => iprop(∃ κ : ℕ, cellInv ER (sched V) κ (kcell (c, k))) : sProp 𝕄) from by
        rw [← bigSep_sep']
        exact (bigSep_mono fun k _ => (Rounds.body_intro ER (sched V) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

theorem G'_each (K : Dev nD × Kd → ℕ) (c : Dev nD) : iprop(records V K ∗ (alone c ∗ zeros c)) ⊢ G' V c := by
  unfold G'
  iintro ⟨HR, HA, HZ⟩
  isplitr [HZ]
  · iexists K; isplitl [HR] <;> iassumption
  iexact HZ

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Kd => iprop(∃ κ : ℕ, cellInv ER (sched V) κ (kcell (c, k))))
          ∗ ((bigSep Finset.univ fun k : Kd => atPos ER (kcell (c, k)) 0 ∅ 0) ∗ bigSep Finset.univ fun k : Kd => reached ER (kcell (c, k)) 0) ∗ dutiesAt c ∗ zeros c) : sProp 𝕄)
      ⊢ bigSep Finset.univ (G' V) := by
  rw [bigSep_sep', bigSep_sep', bigSep_sep', bigSep_sep', ← bigSep_univ_prod (fun ck : Dev nD × Kd => iprop(∃ κ : ℕ, cellInv ER (sched V) κ (kcell ck))),
    ← bigSep_univ_prod (fun ck : Dev nD × Kd => (reached ER (kcell ck) 0 : sProp 𝕄))]
  iintro ⟨HI, ⟨Hat, #HR⟩, Htok, Hz⟩
  ihave HK := (BI.bigSep_exists_pi Finset.univ (fun (ck : Dev nD × Kd) (κ : ℕ) => (cellInv ER (sched V) κ (kcell ck) : sProp 𝕄))) $$ HI
  icases HK with ⟨%K, #HI⟩
  ihave Htk := (duties_dealt (F := F)) $$ Htok
  iapply (with_records (R := records V K) (Φ := fun c => iprop(alone c ∗ zeros c)) (G'_each V K))
  isplitr
  · unfold records; isplitl; · iexact HI
    iexact HR
  unfold alone
  simp only [bigSep_sep']
  isplitr [Hz]
  · isplitl [Hat] <;> iassumption
  iexact Hz

/-- Every device's semaphores at once become the cells of the schedule. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

end Schedule

/-! ## The credits -/

/-- What every device owes at the start; -/
abbrev O₀ (c : Dev nD) : CellTallies nD τ sig Unit := barOwe c 8
/-- of it, to a device's cell of each kind. -/
def due (d : Dev nD) : Kd → ℕ
  | .inl _ => 1
  | .inr (true, _) => 0
  | .inr (false, s) => if s = d then N else 0

theorem tally_cell (a b : Dev nD × Kd) (q : ℕ) : (tallyAt (kcell a) () q : CellTallies nD τ sig Unit) (kcell b) () = if b = a then q else 0 := by
  rw [tallyAt_apply]
  exact if_congr ⟨fun h => kcell_injective h.1, fun h => ⟨congrArg kcell h, rfl⟩⟩ rfl rfl

theorem O₀_cell (d c : Dev nD) (k : Kd) : O₀ d (kcell (c, k)) () = due d k := by
  have T (a : Dev nD) (q : Kd) (n : ℕ) : (tallyAt (kcell (a, q)) () n : CellTallies nD τ sig Unit) (kcell (c, k)) () = if (c, k) = (a, q) then n else 0 := tally_cell _ _ _
  have T1 (a : Dev nD) : (tallyAt (barCell a) () 1 : CellTallies nD τ sig Unit) (kcell (c, k)) () = if (c, k) = (a, .inl true) then 1 else 0 := T a (.inl true) 1
  have T2 (a : Dev nD) : (tallyAt (finCell a) () 1 : CellTallies nD τ sig Unit) (kcell (c, k)) () = if (c, k) = (a, .inl false) then 1 else 0 := T a (.inl false) 1
  have T3 (a s : Dev nD) : (tallyAt (rcvCell a s) () N : CellTallies nD τ sig Unit) (kcell (c, k)) () = if (c, k) = (a, .inr (false, s)) then N else 0 := T a (.inr (false, s)) N
  simp only [O₀, barOwe, rcvOwe, finOwe, Pi.add_apply, Finsupp.add_apply, T1, T2, T3, Pi.zero_apply, Finsupp.zero_apply]
  clear T T1 T2 T3
  revert d c k; decide +kernel

theorem launch_cell (c : Dev nD) (k : Kd) :
    tallyOn (kcell (c, k)) (launchCredit (Pipeline.owing O₀) 0 (kcell (c, k))) = (tallyAt (kcell (c, k)) () (∑ d, due d k) : CellTallies nD τ sig Unit) := by
  unfold tallyAt; refine congrArg _ (Finsupp.ext fun u => ?_); cases u
  rw [Pipeline.launchCredit_owing, Finsupp.single_eq_same, Finset.sum_congr rfl fun d _ => O₀_cell d c k]

theorem credits (c : Dev nD) : (Pipeline.launchCred O₀ c : sProp 𝕄) ⊢ bigSep Finset.univ fun k : Kd => cred (tallyAt (kcell (c, k)) () (∑ d, due d k)) := by
  unfold Pipeline.launchCred
  refine (bigSep_subset (Finset.subset_univ (Finset.univ.map ⟨csem, csem_injective⟩))).trans ?_
  rw [bigSep_map]
  exact bigSep_mono fun k _ => Entails.of_eq (congrArg cred (launch_cell c k))

theorem due_reg (b : Bool) : ∑ d, due d (.inl b) = 8 := rfl
theorem due_rcv (s : Fin 8) : ∑ d, due d (.inr (false, s)) = N := by
  show (∑ d, if s = d then N else 0) = N
  rw [Finset.sum_ite_eq Finset.univ s fun _ => N, if_pos (Finset.mem_univ _)]

/-! ## The buffers used by slots -/

section Slots
variable (c : Dev nD)

theorem slots_disjoint (j j' : Fin 8) (h : j ≠ j') :
    Disjoint (Rect.unit (s := S8x1024x512) (slotOff j) S1x1024x512.size (slotOff_inb j)).set (Rect.unit (s := S8x1024x512) (slotOff j') S1x1024x512.size (slotOff_inb j')).set :=
  Ring.lead_disjoint (s := S8x1024x512) 0 1 slotOff S1x1024x512.size slotOff_inb (by decide) (by decide) j j' h
theorem slots_cover : Finset.univ.biUnion (fun j : Fin 8 => (Rect.unit (s := S8x1024x512) (slotOff j) S1x1024x512.size (slotOff_inb j)).set) = Finset.univ :=
  Ring.lead_cover (s := S8x1024x512) 0 1 slotOff S1x1024x512.size slotOff_inb (by decide) (by decide) (by decide) (by decide) (by decide)
theorem wslots_disjoint (j j' : Fin 2) (h : j ≠ j') :
    Disjoint (Rect.unit (s := S2x1024x1024) (wsOff j) S1x1024x1024.size (wsOff_inb j)).set (Rect.unit (s := S2x1024x1024) (wsOff j') S1x1024x1024.size (wsOff_inb j')).set :=
  Ring.lead_disjoint (s := S2x1024x1024) 0 1 wsOff S1x1024x1024.size wsOff_inb (by decide) (by decide) j j' h
theorem wslots_cover : Finset.univ.biUnion (fun j : Fin 2 => (Rect.unit (s := S2x1024x1024) (wsOff j) S1x1024x1024.size (wsOff_inb j)).set) = Finset.univ :=
  Ring.lead_cover (s := S2x1024x1024) 0 1 wsOff S1x1024x1024.size wsOff_inb (by decide) (by decide) (by decide) (by decide) (by decide)

theorem ysl_set (j : Fin 8) : (ysl j).view.set = (Rect.unit (s := S8x1024x512) (slotOff j) S1x1024x512.size (slotOff_inb j)).set :=
  (View.set_reshape _ _).trans (View.set_slice_whole _ _)
theorem rsl_set (j : Fin 8) : (rsl j).view.set = (Rect.unit (s := S8x1024x512) (slotOff j) S1x1024x512.size (slotOff_inb j)).set :=
  (View.set_reshape _ _).trans (View.set_slice_whole _ _)
theorem wsl_set (j : Fin 2) : (wsl j).view.set = (Rect.unit (s := S2x1024x1024) (wsOff j) S1x1024x1024.size (wsOff_inb j)).set :=
  (View.set_reshape _ _).trans (View.set_slice_whole _ _)

/-- A slot held, as the part of its buffer it is. -/
theorem ysP_eq (j : Fin 8) (f) : (ysP (F := F) c j f) = iprop(ysM.view.loc (c : Thread nD τ) ↦[(Rect.unit (s := S8x1024x512) (slotOff j) S1x1024x512.size (slotOff_inb j)).set]{fullShare} f) :=
  congrArg (fun S => (ysM.view.loc (c : Thread nD τ) ↦[S]{fullShare} f : sProp 𝕄)) (ysl_set j)
theorem rsP_eq (j : Fin 8) (f) : (rsP (F := F) c j f) = iprop(rcM.view.loc (c : Thread nD τ) ↦[(Rect.unit (s := S8x1024x512) (slotOff j) S1x1024x512.size (slotOff_inb j)).set]{fullShare} f) :=
  congrArg (fun S => (rcM.view.loc (c : Thread nD τ) ↦[S]{fullShare} f : sProp 𝕄)) (rsl_set j)
abbrev wsP (j : Fin 2) (f : Buf (Elt F) ((wsl j).view.loc (c : Thread nD τ))) : sProp 𝕄 :=
  (wsl j).view.loc (c : Thread nD τ) ↦[(wsl j).view.set]{fullShare} f
theorem wsP_eq (j : Fin 2) (f) : (wsP (F := F) c j f) = iprop(wbM.view.loc (c : Thread nD τ) ↦[(Rect.unit (s := S2x1024x1024) (wsOff j) S1x1024x1024.size (wsOff_inb j)).set]{fullShare} f) :=
  congrArg (fun S => (wbM.view.loc (c : Thread nD τ) ↦[S]{fullShare} f : sProp 𝕄)) (wsl_set j)

theorem ys_give (j : Fin 8) (f) : (ysM.view.loc (c : Thread nD τ) ↦[(Rect.unit (s := S8x1024x512) (slotOff j) S1x1024x512.size (slotOff_inb j)).set]{fullShare} f : sProp 𝕄) ⊢ iprop(∃ f, ysP c j f) := by
  iintro H; iexists f; iapply (Entails.of_eq (ysP_eq c j f).symm); iexact H
theorem ys_take (j : Fin 8) : (iprop(∃ f, ysP c j f) : sProp 𝕄) ⊢ iprop(∃ f, ysM.view.loc (c : Thread nD τ) ↦[(Rect.unit (s := S8x1024x512) (slotOff j) S1x1024x512.size (slotOff_inb j)).set]{fullShare} f) := by
  iintro ⟨%f, H⟩; iexists f; iapply (Entails.of_eq (ysP_eq c j f)); iexact H
theorem ys_split (f) : (ysM.view.loc (c : Thread nD τ) ↦{fullShare} f : sProp 𝕄) ⊢ bigSep Finset.univ fun j : Fin 8 => iprop(∃ f, ysP c j f) := by
  rw [Ring.pointsTo_blocks _ slots_disjoint slots_cover f]
  exact bigSep_mono fun j _ => ys_give c j f
theorem rs_give (j : Fin 8) (f) : (rcM.view.loc (c : Thread nD τ) ↦[(Rect.unit (s := S8x1024x512) (slotOff j) S1x1024x512.size (slotOff_inb j)).set]{fullShare} f : sProp 𝕄) ⊢ iprop(∃ f, rsP c j f) := by
  iintro H; iexists f; iapply (Entails.of_eq (rsP_eq c j f).symm); iexact H
theorem rs_take (j : Fin 8) : (iprop(∃ f, rsP c j f) : sProp 𝕄) ⊢ iprop(∃ f, rcM.view.loc (c : Thread nD τ) ↦[(Rect.unit (s := S8x1024x512) (slotOff j) S1x1024x512.size (slotOff_inb j)).set]{fullShare} f) := by
  iintro ⟨%f, H⟩; iexists f; iapply (Entails.of_eq (rsP_eq c j f)); iexact H
theorem rs_split (f) : (rcM.view.loc (c : Thread nD τ) ↦{fullShare} f : sProp 𝕄) ⊢ bigSep Finset.univ fun j : Fin 8 => iprop(∃ f, rsP c j f) := by
  rw [Ring.pointsTo_blocks _ slots_disjoint slots_cover f]
  exact bigSep_mono fun j _ => rs_give c j f
theorem ws_give (j : Fin 2) (f) : (wbM.view.loc (c : Thread nD τ) ↦[(Rect.unit (s := S2x1024x1024) (wsOff j) S1x1024x1024.size (wsOff_inb j)).set]{fullShare} f : sProp 𝕄) ⊢ iprop(∃ f, wsP c j f) := by
  iintro H; iexists f; iapply (Entails.of_eq (wsP_eq c j f).symm); iexact H
theorem ws_take (j : Fin 2) : (iprop(∃ f, wsP c j f) : sProp 𝕄) ⊢ iprop(∃ f, wbM.view.loc (c : Thread nD τ) ↦[(Rect.unit (s := S2x1024x1024) (wsOff j) S1x1024x1024.size (wsOff_inb j)).set]{fullShare} f) := by
  iintro ⟨%f, H⟩; iexists f; iapply (Entails.of_eq (wsP_eq c j f)); iexact H
theorem ws_split (f) : (wbM.view.loc (c : Thread nD τ) ↦{fullShare} f : sProp 𝕄) ⊢ bigSep Finset.univ fun j : Fin 2 => iprop(∃ f, wsP c j f) := by
  rw [Ring.pointsTo_blocks _ wslots_disjoint wslots_cover f]
  exact bigSep_mono fun j _ => ws_give c j f

theorem ys_join (f₀ : Buf (Elt F) (ysM.view.loc (c : Thread nD τ))) :
    (bigSep Finset.univ fun j : Fin 8 => iprop(∃ f, ysP c j f)) ⊢ (iprop(∃ f, ysM.view.loc (c : Thread nD τ) ↦{fullShare} f) : sProp 𝕄) := by
  exact (bigSep_mono fun j _ => ys_take c j).trans (Ring.pointsTo_blocks_join_exists _ slots_disjoint slots_cover f₀)
theorem rs_join (f₀ : Buf (Elt F) (rcM.view.loc (c : Thread nD τ))) :
    (bigSep Finset.univ fun j : Fin 8 => iprop(∃ f, rsP c j f)) ⊢ (iprop(∃ f, rcM.view.loc (c : Thread nD τ) ↦{fullShare} f) : sProp 𝕄) := by
  exact (bigSep_mono fun j _ => rs_take c j).trans (Ring.pointsTo_blocks_join_exists _ slots_disjoint slots_cover f₀)
theorem ws_join (f₀ : Buf (Elt F) (wbM.view.loc (c : Thread nD τ))) :
    (bigSep Finset.univ fun j : Fin 2 => iprop(∃ f, wsP c j f)) ⊢ (iprop(∃ f, wbM.view.loc (c : Thread nD τ) ↦{fullShare} f) : sProp 𝕄) := by
  exact (bigSep_mono fun j _ => ws_take c j).trans (Ring.pointsTo_blocks_join_exists _ wslots_disjoint wslots_cover f₀)

/-- What the kernel leaves alone of the weights' shares. -/
def wSpare (WA : Buf (Elt F) (wM.view.loc (c : Thread nD τ))) : sProp 𝕄 :=
  iprop((wM.view.loc (c : Thread nD τ) ↦{Transfers.shareDrop fullShare 3} WA) ∗ (wM.view.loc (c : Thread nD τ) ↦{tok 0} WA))
theorem w_shares (WA : Buf (Elt F) (wM.view.loc (c : Thread nD τ))) :
    (wM.view.loc (c : Thread nD τ) ↦{fullShare} WA : sProp 𝕄) ⊣⊢ iprop(wSpare c WA ∗ (wM.view.loc (c : Thread nD τ) ↦{tok 1} WA) ∗ (wM.view.loc (c : Thread nD τ) ↦{tok 2} WA)) := by
  have h := Transfers.pointsTo_toks_range (ℓ := wM.view.loc (c : Thread nD τ)) (S := Finset.univ) (f := WA) (Ix := Unit) (Name := ℕ) (U := UU) (Lvl := ℕ) fullShare 3
  rw [bigSep_range3] at h
  unfold wSpare
  constructor
  · refine h.1.trans ?_
    iintro ⟨Hd, H0, H1, H2⟩
    isplitl [Hd H0]; · isplitl [Hd] <;> iassumption
    isplitl [H1]; · iexact H1
    iexact H2
  · refine BIBase.Entails.trans ?_ h.2
    iintro ⟨⟨Hd, H0⟩, H1, H2⟩
    isplitl [Hd]; · iexact Hd
    isplitl [H0]; · iexact H0
    isplitl [H1]; · iexact H1
    iexact H2

end Slots

end Cert.KernelIdeal.Pf

end
-- ==== Proof.BodyKernelIdeal.lean ====
/-
# `KernelIdeal`: a device's whole run

From what a device starts with — its buffers, its semaphores, its duties and its credits — to its end: the barrier, the
loop of four trips by its invariant, the eight blocks received and written out, the eight sends gone out, and the
closing barrier.
-/
module

public import proofs.«01_k».proof.Proof.OutKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Eight pieces, two to a trip -/

theorem bigSep_pairs {M : Type} [URA M] (e : Fin 4 → Fin 2 → Fin 8) (he : Function.Bijective fun x : Fin 4 × Fin 2 => e x.1 x.2) (Φ : Fin 8 → sProp M) :
    bigSep Finset.univ Φ = bigSep Finset.univ fun i : Fin 4 => iprop(Φ (e i 0) ∗ Φ (e i 1)) := by
  rw [bigSep_univ_equiv (Equiv.ofBijective _ he) Φ, bigSep_univ_prod]
  exact bigSep_congr fun i _ => bigSep_univ_two (Φ := fun d => Φ (e i d))

theorem zip4 {M : Type} [URA M] (Φ Ψ : Fin 4 → sProp M) :
    iprop(bigSep Finset.univ Φ ∗ bigSep Finset.univ Ψ) ⊢ bigSep Finset.univ fun i => iprop(Φ i ∗ Ψ i) := Entails.of_eq (bigSep_sep Finset.univ Φ Ψ).symm

theorem yj_bij : Function.Bijective fun x : Fin 4 × Fin 2 => yj x.1.val x.2 := by decide +kernel
theorem tgt_bij (c : Dev nD) : Function.Bijective fun x : Fin 4 × Fin 2 => tgt c x.1.val x.2 := by revert c; decide +kernel

variable (V : Dev nD → Dev nD → S1024x512.Idx → Elt F .bf16) (K : Dev nD × Kd → ℕ)
variable (c : Dev nD) (XA : Buf (Elt F) (xM.view.loc (c : Thread nD τ))) (WA : Buf (Elt F) (wM.view.loc (c : Thread nD τ)))

/-- What device `c` has of its own for the sends: the send slots and the duties. -/
def mine : sProp 𝕄 :=
  iprop((bigSep Finset.univ fun j : Fin 8 => iprop(∃ f, ysP c j f)) ∗ (bigSep Finset.univ fun j : Fin 8 => dutyTok ER (sndCell c j) 0 0)
    ∗ bigSep Finset.univ fun p : Dev nD => dutyTok ER (rcvCell p c) 0 0)

/-- With the slots the barrier hands over, a trip's sends are ready; -/
theorem sendPre_intro (i : ℕ) :
    iprop((((∃ f, ysP c (yj i 0) f) ∗ (∃ f, ysP c (yj i 1) f)) ∗ (dutyTok ER (sndCell c (yj i 0)) 0 0 ∗ dutyTok ER (sndCell c (yj i 1)) 0 0)
        ∗ (dutyTok ER (rcvCell (tgt c i 0) c) 0 0 ∗ dutyTok ER (rcvCell (tgt c i 1) c) 0 0)) ∗ (barPay c (tgt c i 0) ∗ barPay c (tgt c i 1)))
      ⊢ (sendPre c i : sProp 𝕄) := by
  unfold sendPre barPay
  iintro ⟨⟨⟨H1, H2⟩, ⟨H3, H4⟩, H5, H6⟩, H7, H8⟩
  isplitl [H1]; · iexact H1
  isplitl [H2]; · iexact H2
  isplitl [H7]; · iexact H7
  isplitl [H8]; · iexact H8
  isplitl [H3]; · iexact H3
  isplitl [H5]; · iexact H5
  isplitl [H4] <;> iassumption
/-- all of them. -/
theorem sends_start : iprop(mine c ∗ bigSep Finset.univ (barPay (F := F) c)) ⊢ sends c 0 := by
  unfold mine sends
  rw [bigSep_pairs (fun i d => yj i.val d) yj_bij (fun j : Fin 8 => iprop(∃ f, ysP (F := F) c j f)),
    bigSep_pairs (fun i d => yj i.val d) yj_bij (fun j : Fin 8 => (dutyTok ER (sndCell c j) 0 0 : sProp 𝕄)),
    bigSep_pairs (fun i d => tgt c i.val d) (tgt_bij c) (fun p : Fin 8 => (dutyTok ER (rcvCell p c) 0 0 : sProp 𝕄)),
    bigSep_pairs (fun i d => tgt c i.val d) (tgt_bij c) (barPay (F := F) c)]
  refine ((sep_mono_l ((sep_mono_r (zip4 _ _)).trans (zip4 _ _))).trans (zip4 _ _)).trans (bigSep_mono fun i _ => ?_)
  rw [if_pos (Nat.zero_le _)]
  exact sendPre_intro c i.val

/-- When all are sent, their credits are there. -/
theorem sends_done : sends c 4 ⊢ bigSep Finset.univ fun j : Fin 8 => (cred (tallyAt (sndCell c j) () N) : sProp 𝕄) := by
  unfold sends
  rw [bigSep_pairs (fun i d => yj i.val d) yj_bij (fun j : Fin 8 => (cred (tallyAt (sndCell c j) () N) : sProp 𝕄))]
  refine Entails.of_eq (bigSep_congr fun i _ => ?_)
  rw [if_neg (Nat.not_le.mpr i.isLt)]
  rfl

/-- What a device's run starts with. -/
def bodyStart : sProp 𝕄 :=
  iprop(records V K ∗ levAts L lv ∗ (∃ W, owes (c : Thread nD τ) (barOwe c 8) W)
    ∗ chain (barTok c) 8 ∗ waiting c (.inl true) 8 ∗ chain (finTok c) 8 ∗ waiting c (.inl false) 8 ∗ mine c
    ∗ chain (fun s => waiting c (.inr (false, s)) N) 8 ∗ chain (fun j => atPos ER (sndCell c j) 0 ∅ 0) 8
    ∗ zeros c ∗ bufs c ∗ args c XA WA ∗ ∃ f, outM.view.loc (c : Thread nD τ) ↦{fullShare} f)

set_option maxHeartbeats 1000000 in
theorem body_run (step : ∀ v2 (t : Fin k0_t1_loop.trips), Inv V K c XA WA t.val ⊢ wp frame (wpE (defs₀ (F := F)) 𝒱₀ (c : Thread nD τ) none) Set.univ (trip c v2 t) (fun _ => Inv V K c XA WA (t.val + 1))) :
    bodyStart V K c XA WA ⊢ wp frame (wpE (defs₀ (F := F)) 𝒱₀ (c : Thread nD τ) none) Set.univ
      (cc0_body (F := F) xM (Memref.isWhole_whole _) wM (Memref.isWhole_whole _) outM (Memref.isWhole_whole _) xbM (Memref.isWhole_whole _) xinM (Memref.isWhole_whole _)
        ysM (Memref.isWhole_whole _) rcM (Memref.isWhole_whole _) stM (Memref.isWhole_whole _) wbM (Memref.isWhole_whole _) wcM (Memref.isWhole_whole _) acM (Memref.isWhole_whole _)
        cc0_scratch8 cc0_scratch9 cc0_scratch10 cc0_scratch11 cc0_scratch12 cc0_scoped0) (fun _ => bodyEnd V c XA WA) := by
  have MS : (levAts L lv : sProp 𝕄) ⊢ MayWait (c : Thread nD τ) (.dma (cc0_scratch12 : DmaSems sig S_).sem) () (finOwe 8) := mayWait_of_above c _ 3 (by decide) (above_fin 8)
  unfold bodyStart zeros bufs args
  iintro ⟨#HR, #HL, ⟨%W, HO⟩, Hbar, HbarW, Hfin, HfinW, Hmine, Hrcv, Hsnd, ⟨Hzx, Hz0, Hz1, Hzs⟩, ⟨⟨%fxb, Hxb⟩, ⟨%fxi, Hxi⟩, ⟨%fst, Hst⟩, Hs0, Hs1, Hwc, Hac⟩, ⟨Hx, Hw1, Hw2⟩, ⟨%fo, Ho⟩⟩
  icases Hs0 with ⟨%fs0, Hs0⟩
  rw [cc0_body_eq_skeleton]
  sl_unfold [cc0_body_skel]
  sl_exec
  iapply (wp_bar_signal V K c 7 rfl rfl) $$ [HO Hbar]
  · isplitr; · iexact HR
    isplitl [HO] <;> iassumption
  iintro ⟨HO, Hbar⟩
  sl_exec
  iapply (wp_bar_signal V K c 6 rfl rfl) $$ [HO Hbar]
  · isplitr; · iexact HR
    isplitl [HO] <;> iassumption
  iintro ⟨HO, Hbar⟩
  sl_exec
  iapply (wp_bar_signal V K c 5 rfl rfl) $$ [HO Hbar]
  · isplitr; · iexact HR
    isplitl [HO] <;> iassumption
  iintro ⟨HO, Hbar⟩
  sl_exec
  iapply (wp_bar_signal V K c 4 rfl rfl) $$ [HO Hbar]
  · isplitr; · iexact HR
    isplitl [HO] <;> iassumption
  iintro ⟨HO, Hbar⟩
  sl_exec
  iapply (wp_bar_signal V K c 3 rfl rfl) $$ [HO Hbar]
  · isplitr; · iexact HR
    isplitl [HO] <;> iassumption
  iintro ⟨HO, Hbar⟩
  sl_exec
  iapply (wp_bar_signal V K c 2 rfl rfl) $$ [HO Hbar]
  · isplitr; · iexact HR
    isplitl [HO] <;> iassumption
  iintro ⟨HO, Hbar⟩
  sl_exec
  iapply (wp_bar_signal V K c 1 rfl rfl) $$ [HO Hbar]
  · isplitr; · iexact HR
    isplitl [HO] <;> iassumption
  iintro ⟨HO, Hbar⟩
  sl_exec
  iapply (wp_bar_signal V K c 0 rfl rfl) $$ [HO Hbar]
  · isplitr; · iexact HR
    isplitl [HO] <;> iassumption
  iintro ⟨HO, Hbar⟩
  sl_exec
  iapply (wp_bar_wait V K c rfl) $$ [HO HbarW]
  · isplitr; · iexact HR
    isplitr; · iexact HL
    isplitl [HO]; · iexact HO
    iexact HbarW
  iintro ⟨HO, Hzbar, Hslots⟩
  ihave Hsends := (sends_start c) $$ [Hmine Hslots]
  · isplitl [Hmine] <;> iassumption
  sl_exec
  sl_for (fun t _ => Inv V K c XA WA t) $$ [HO Hsends Hz0 Hw1 Hzx Hx Hxb Hw2 Hs1 Hz1 Hwc Hac]
  · intro t acc; exact step _ t
  · unfold Inv
    rw [show wState c WA 0 = _ from if_pos (by decide), show xState c XA 0 = _ from if_pos rfl]
    unfold xStart work
    isplitr; · iexact HR
    isplitr; · iexact HL
    isplitl [Hz0 Hw1]
    · isplitl [Hz0]; · iexists fs0; iexact Hz0
      iexact Hw1
    isplitl [Hzx Hx Hxb]
    · isplitl [Hzx]; · iexists fxi; iexact Hzx
      isplitl [Hx]; · iexact Hx
      iexists fxb; iexact Hxb
    isplitl [Hw2 Hs1 Hz1 Hwc Hac]
    · isplitl [Hw2]; · iexact Hw2
      isplitl [Hs1]; · iexact Hs1
      isplitl [Hz1]; · iexact Hz1
      isplitl [Hwc] <;> iassumption
    isplitl [Hsends]; · iexact Hsends
    iexists _; iexact HO
  iintro %acc HI
  rw [show Scf.trips k0_t1_loop.lb k0_t1_loop.ub k0_t1_loop.st = 4 from trips_eq]
  unfold Inv
  rw [show wState c WA 4 = _ from if_neg (by decide), show xState c XA 4 = _ from if_neg (by decide)]
  unfold xDone work
  icases HI with ⟨-, -, ⟨Hs0, Hz0, Hw1⟩, ⟨Hx, Hzx, Hxi, ⟨%XB, %hXB, Hxb⟩⟩, ⟨Hw2, Hs1, Hz1, Hwc, Hac⟩, Hsends, ⟨%W', HO⟩⟩
  rw [show rcvOwe c (4 - 4) = finOwe 8 from rfl]
  sl_exec
  icases (Entails.of_eq (chain_succ _ 7)) $$ Hrcv with ⟨Hr, Hrcv⟩
  iapply (wp_rcv_wait V K c 0 (by rfl) (by rfl)) $$ [HO Hr]
  · isplitr; · iexact HR
    isplitr; · iexact HL
    isplitl [HO]; · iexact HO
    iexact Hr
  unfold rcvPay
  iintro ⟨HO, Hzr0, ⟨%g0, %hg0, Hg0⟩⟩
  sl_exec
  icases (Entails.of_eq (chain_succ _ 6)) $$ Hrcv with ⟨Hr, Hrcv⟩
  iapply (wp_rcv_wait V K c 1 (by rfl) (by rfl)) $$ [HO Hr]
  · isplitr; · iexact HR
    isplitr; · iexact HL
    isplitl [HO]; · iexact HO
    iexact Hr
  unfold rcvPay
  iintro ⟨HO, Hzr1, ⟨%g1, %hg1, Hg1⟩⟩
  sl_exec
  icases (Entails.of_eq (chain_succ _ 5)) $$ Hrcv with ⟨Hr, Hrcv⟩
  iapply (wp_rcv_wait V K c 2 (by rfl) (by rfl)) $$ [HO Hr]
  · isplitr; · iexact HR
    isplitr; · iexact HL
    isplitl [HO]; · iexact HO
    iexact Hr
  unfold rcvPay
  iintro ⟨HO, Hzr2, ⟨%g2, %hg2, Hg2⟩⟩
  sl_exec
  icases (Entails.of_eq (chain_succ _ 4)) $$ Hrcv with ⟨Hr, Hrcv⟩
  iapply (wp_rcv_wait V K c 3 (by rfl) (by rfl)) $$ [HO Hr]
  · isplitr; · iexact HR
    isplitr; · iexact HL
    isplitl [HO]; · iexact HO
    iexact Hr
  unfold rcvPay
  iintro ⟨HO, Hzr3, ⟨%g3, %hg3, Hg3⟩⟩
  sl_exec
  icases (Entails.of_eq (chain_succ _ 3)) $$ Hrcv with ⟨Hr, Hrcv⟩
  iapply (wp_rcv_wait V K c 4 (by rfl) (by rfl)) $$ [HO Hr]
  · isplitr; · iexact HR
    isplitr; · iexact HL
    isplitl [HO]; · iexact HO
    iexact Hr
  unfold rcvPay
  iintro ⟨HO, Hzr4, ⟨%g4, %hg4, Hg4⟩⟩
  sl_exec
  icases (Entails.of_eq (chain_succ _ 2)) $$ Hrcv with ⟨Hr, Hrcv⟩
  iapply (wp_rcv_wait V K c 5 (by rfl) (by rfl)) $$ [HO Hr]
  · isplitr; · iexact HR
    isplitr; · iexact HL
    isplitl [HO]; · iexact HO
    iexact Hr
  unfold rcvPay
  iintro ⟨HO, Hzr5, ⟨%g5, %hg5, Hg5⟩⟩
  sl_exec
  icases (Entails.of_eq (chain_succ _ 1)) $$ Hrcv with ⟨Hr, Hrcv⟩
  iapply (wp_rcv_wait V K c 6 (by rfl) (by rfl)) $$ [HO Hr]
  · isplitr; · iexact HR
    isplitr; · iexact HL
    isplitl [HO]; · iexact HO
    iexact Hr
  unfold rcvPay
  iintro ⟨HO, Hzr6, ⟨%g6, %hg6, Hg6⟩⟩
  sl_exec
  icases (Entails.of_eq (chain_succ _ 0)) $$ Hrcv with ⟨Hr, Hrcv⟩
  iapply (wp_rcv_wait V K c 7 (by rfl) (by rfl)) $$ [HO Hr]
  · isplitr; · iexact HR
    isplitr; · iexact HL
    isplitl [HO]; · iexact HO
    iexact Hr
  unfold rcvPay
  iintro ⟨HO, Hzr7, ⟨%g7, %hg7, Hg7⟩⟩
  sl_exec
  ihave Hcred := (sends_done c) $$ Hsends
  ihave Hcred := (Entails.of_eq (chain_eq _)) $$ Hcred
  icases (Entails.of_eq (chain_succ _ 7)) $$ Hsnd with ⟨Hr, Hsnd⟩
  icases (Entails.of_eq (chain_succ _ 7)) $$ Hcred with ⟨Hc, Hcred⟩
  iapply (wp_snd_wait V K c 0 (by rfl) (by rfl)) $$ [HO Hr Hc]
  · isplitr; · iexact HR
    isplitr; · iexact HL
    isplitl [HO]; · iexact HO
    isplitl [Hr] <;> iassumption
  iintro ⟨HO, Hzs0, Hy0⟩
  sl_exec
  icases (Entails.of_eq (chain_succ _ 6)) $$ Hsnd with ⟨Hr, Hsnd⟩
  icases (Entails.of_eq (chain_succ _ 6)) $$ Hcred with ⟨Hc, Hcred⟩
  iapply (wp_snd_wait V K c 1 (by rfl) (by rfl)) $$ [HO Hr Hc]
  · isplitr; · iexact HR
    isplitr; · iexact HL
    isplitl [HO]; · iexact HO
    isplitl [Hr] <;> iassumption
  iintro ⟨HO, Hzs1, Hy1⟩
  sl_exec
  icases (Entails.of_eq (chain_succ _ 5)) $$ Hsnd with ⟨Hr, Hsnd⟩
  icases (Entails.of_eq (chain_succ _ 5)) $$ Hcred with ⟨Hc, Hcred⟩
  iapply (wp_snd_wait V K c 2 (by rfl) (by rfl)) $$ [HO Hr Hc]
  · isplitr; · iexact HR
    isplitr; · iexact HL
    isplitl [HO]; · iexact HO
    isplitl [Hr] <;> iassumption
  iintro ⟨HO, Hzs2, Hy2⟩
  sl_exec
  icases (Entails.of_eq (chain_succ _ 4)) $$ Hsnd with ⟨Hr, Hsnd⟩
  icases (Entails.of_eq (chain_succ _ 4)) $$ Hcred with ⟨Hc, Hcred⟩
  iapply (wp_snd_wait V K c 3 (by rfl) (by rfl)) $$ [HO Hr Hc]
  · isplitr; · iexact HR
    isplitr; · iexact HL
    isplitl [HO]; · iexact HO
    isplitl [Hr] <;> iassumption
  iintro ⟨HO, Hzs3, Hy3⟩
  sl_exec
  icases (Entails.of_eq (chain_succ _ 3)) $$ Hsnd with ⟨Hr, Hsnd⟩
  icases (Entails.of_eq (chain_succ _ 3)) $$ Hcred with ⟨Hc, Hcred⟩
  iapply (wp_snd_wait V K c 4 (by rfl) (by rfl)) $$ [HO Hr Hc]
  · isplitr; · iexact HR
    isplitr; · iexact HL
    isplitl [HO]; · iexact HO
    isplitl [Hr] <;> iassumption
  iintro ⟨HO, Hzs4, Hy4⟩
  sl_exec
  icases (Entails.of_eq (chain_succ _ 2)) $$ Hsnd with ⟨Hr, Hsnd⟩
  icases (Entails.of_eq (chain_succ _ 2)) $$ Hcred with ⟨Hc, Hcred⟩
  iapply (wp_snd_wait V K c 5 (by rfl) (by rfl)) $$ [HO Hr Hc]
  · isplitr; · iexact HR
    isplitr; · iexact HL
    isplitl [HO]; · iexact HO
    isplitl [Hr] <;> iassumption
  iintro ⟨HO, Hzs5, Hy5⟩
  sl_exec
  icases (Entails.of_eq (chain_succ _ 1)) $$ Hsnd with ⟨Hr, Hsnd⟩
  icases (Entails.of_eq (chain_succ _ 1)) $$ Hcred with ⟨Hc, Hcred⟩
  iapply (wp_snd_wait V K c 6 (by rfl) (by rfl)) $$ [HO Hr Hc]
  · isplitr; · iexact HR
    isplitr; · iexact HL
    isplitl [HO]; · iexact HO
    isplitl [Hr] <;> iassumption
  iintro ⟨HO, Hzs6, Hy6⟩
  sl_exec
  icases (Entails.of_eq (chain_succ _ 0)) $$ Hsnd with ⟨Hr, Hsnd⟩
  icases (Entails.of_eq (chain_succ _ 0)) $$ Hcred with ⟨Hc, Hcred⟩
  iapply (wp_snd_wait V K c 7 (by rfl) (by rfl)) $$ [HO Hr Hc]
  · isplitr; · iexact HR
    isplitr; · iexact HL
    isplitl [HO]; · iexact HO
    isplitl [Hr] <;> iassumption
  iintro ⟨HO, Hzs7, Hy7⟩
  sl_exec
  iapply (wp_fin_signal V K c 7 rfl rfl) $$ [HO Hfin]
  · isplitr; · iexact HR
    isplitl [HO] <;> iassumption
  iintro ⟨HO, Hfin⟩
  sl_exec
  iapply (wp_fin_signal V K c 6 rfl rfl) $$ [HO Hfin]
  · isplitr; · iexact HR
    isplitl [HO] <;> iassumption
  iintro ⟨HO, Hfin⟩
  sl_exec
  iapply (wp_fin_signal V K c 5 rfl rfl) $$ [HO Hfin]
  · isplitr; · iexact HR
    isplitl [HO] <;> iassumption
  iintro ⟨HO, Hfin⟩
  sl_exec
  iapply (wp_fin_signal V K c 4 rfl rfl) $$ [HO Hfin]
  · isplitr; · iexact HR
    isplitl [HO] <;> iassumption
  iintro ⟨HO, Hfin⟩
  sl_exec
  iapply (wp_fin_signal V K c 3 rfl rfl) $$ [HO Hfin]
  · isplitr; · iexact HR
    isplitl [HO] <;> iassumption
  iintro ⟨HO, Hfin⟩
  sl_exec
  iapply (wp_fin_signal V K c 2 rfl rfl) $$ [HO Hfin]
  · isplitr; · iexact HR
    isplitl [HO] <;> iassumption
  iintro ⟨HO, Hfin⟩
  sl_exec
  iapply (wp_fin_signal V K c 1 rfl rfl) $$ [HO Hfin]
  · isplitr; · iexact HR
    isplitl [HO] <;> iassumption
  iintro ⟨HO, Hfin⟩
  sl_exec
  iapply (wp_fin_signal V K c 0 rfl rfl) $$ [HO Hfin]
  · isplitr; · iexact HR
    isplitl [HO] <;> iassumption
  iintro ⟨HO, Hfin⟩
  sl_exec
  iapply (wp_fin_wait V K c rfl) $$ [HO HfinW]
  · isplitr; · iexact HR
    isplitr; · iexact HL
    isplitl [HO]; · iexact HO
    iexact HfinW
  iintro ⟨HO, Hzfin, -⟩
  sl_exec
  simp only [Prog.pure_eq_ret]
  rw [wp_ret]; imodintro
  unfold bodyEnd zeros bufs args
  isplitl [Hzbar]; · iexact Hzbar
  isplitl [Hzfin]; · iexact Hzfin
  isplitl [Hzr0 Hzr1 Hzr2 Hzr3 Hzr4 Hzr5 Hzr6 Hzr7]
  · iapply (chain_intro (fun s => (semVal (rcvCell c s) 0 : sProp 𝕄)))
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7
  isplitl [Hzs0 Hzs1 Hzs2 Hzs3 Hzs4 Hzs5 Hzs6 Hzs7]
  · iapply (chain_intro (fun j => (semVal (sndCell c j) 0 : sProp 𝕄)))
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    iexact Hzs7
  isplitl [Hzx Hz0 Hz1 Hzs]
  · isplitl [Hzx]; · iexact Hzx
    isplitl [Hz0]; · iexact Hz0
    isplitl [Hz1]; · iexact Hz1
    iexact Hzs
  isplitl [Hg0 Hg1 Hg2 Hg3 Hg4 Hg5 Hg6 Hg7]
  · iapply (chain_intro (fun s => iprop(∃ f, rsP (F := F) c s f)))
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    iexists _; iexact Hg7
  isplitl [Hy0 Hy1 Hy2 Hy3 Hy4 Hy5 Hy6 Hy7]
  · iapply (chain_intro (sndPay (F := F) c))
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  isplitl [Hxb Hxi Hst Hs0 Hs1 Hwc Hac]
  · isplitl [Hxb]; · iexists _; iexact Hxb
    isplitl [Hxi]; · iexact Hxi
    isplitl [Hst]; · iexists _; iexact Hst
    isplitl [Hs0]; · iexact Hs0
    isplitl [Hs1]; · iexact Hs1
    isplitl [Hwc]; · iexact Hwc
    iexact Hac
  isplitl [Hx Hw1 Hw2]
  · isplitl [Hx]; · iexact Hx
    isplitl [Hw1]; · iexact Hw1
    iexact Hw2
  isplitl [Ho]
  · iexists _; isplitr; rotate_left; · iexact Ho
    ipureintro
    refine OutTo.next _ (n := 7) (by decide) (stage_val hg7 rfl) ?_
    refine OutTo.next _ (n := 6) (by decide) (stage_val hg6 rfl) ?_
    refine OutTo.next _ (n := 5) (by decide) (stage_val hg5 rfl) ?_
    refine OutTo.next _ (n := 4) (by decide) (stage_val hg4 rfl) ?_
    refine OutTo.next _ (n := 3) (by decide) (stage_val hg3 rfl) ?_
    refine OutTo.next _ (n := 2) (by decide) (stage_val hg2 rfl) ?_
    refine OutTo.next _ (n := 1) (by decide) (stage_val hg1 rfl) ?_
    refine OutTo.next _ (n := 0) (by decide) (stage_val hg0 rfl) ?_
    exact OutTo.none _ _
  iexists _; iexact HO

end Cert.KernelIdeal.Pf

end
-- ==== Proof.TripFirstKernelIdeal.lean ====
/-
# `KernelIdeal`: the first trip

It also brings in the device's rows of `x` and leaves their casts.
-/
module

public import proofs.«01_k».proof.Proof.GhostKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Trip
variable (V : Dev nD → Dev nD → S1024x512.Idx → Elt F .bf16) (K : Dev nD × Kd → ℕ)
variable (c : Dev nD) (XA : Buf (Elt F) (xM.view.loc (c : Thread nD τ))) (WA : Buf (Elt F) (wM.view.loc (c : Thread nD τ))) (v2 : BitVec 32)
variable (hV : ∀ p, V c p = blk XA WA (prOf p) (dOf p))

set_option maxHeartbeats 1000000 in
include hV in
theorem trip_first (t : Fin k0_t1_loop.trips) (ht : t.val = 0) :
    Inv V K c XA WA t.val ⊢ wp frame (wpE (defs₀ (F := F)) 𝒱₀ (c : Thread nD τ) none) Set.univ (trip c v2 t) (fun _ => Inv V K c XA WA (t.val + 1)) := by
  have C1 := cond1_eq t
  have C3 := cond3_eq t
  have C5 := cond5_eq t
  have C7 := cond7_eq t
  have C9 := cond9_eq t
  have C11 := cond11_eq t
  have C13 := cond13_eq t
  have ht3 : t.val < 3 := by omega
  have C15 := (cond15_iff t).mpr ht3
  have CF := first_pos ht
  have M0 : (levAts L lv : sProp 𝕄) ⊢ MayWait (c : Thread nD τ) (.dma (wsS 0).sem) () (rcvOwe c (4 - t.val)) := mayWait_of_above c _ 2 (by decide) (above_rcv c _)
  have M1 : (levAts L lv : sProp 𝕄) ⊢ MayWait (c : Thread nD τ) (.dma (wsS 1).sem) () (rcvOwe c (4 - t.val)) := mayWait_of_above c _ 2 (by decide) (above_rcv c _)
  have MX : (levAts L lv : sProp 𝕄) ⊢ MayWait (c : Thread nD τ) (.dma (cc0_scratch8 : DmaSems sig S_).sem) () (rcvOwe c (4 - t.val)) := mayWait_of_above c _ 2 (by decide) (above_rcv c _)
  have D2 := wblk_disjoint (q := 2) (q' := 0) (p := pr c t.val) (p' := pr c t.val) (.inl (by decide))
  have D4 := wblk_disjoint (q := 4) (q' := 0) (p := pr c t.val) (p' := pr c t.val) (.inl (by decide))
  have D6 := wblk_disjoint (q := 6) (q' := 0) (p := pr c t.val) (p' := pr c t.val) (.inl (by decide))
  have D8 := wblk_disjoint (q := 0) (q' := 0) (p := pr c (t.val + 1)) (p' := pr c t.val) (.inr (pr_next c ht3).symm)
  unfold Inv
  rw [show wState c WA t.val = _ from if_pos (show t.val < 4 by omega), show xState c XA t.val = _ from if_pos ht]
  unfold xStart work
  iintro ⟨#HR, #HL, ⟨⟨%f0, HF0⟩, HwR⟩, ⟨⟨%xi, Hzx⟩, Hx, ⟨%XB, Hxb⟩⟩, ⟨Hw2, ⟨%f1, Hs1⟩, Hz1, ⟨%wc, Hwc⟩, ⟨%ac, Hac⟩⟩, Hsend, ⟨%W, HW⟩⟩
  ihave Hsend' := (sends_step c t.val (by omega)) $$ Hsend
  unfold sendPre
  icases Hsend' with ⟨⟨⟨%y0, Hy0⟩, ⟨%y1, Hy1⟩, Hr0, Hr1, Ht0, Ht0', Ht1, Ht1'⟩, Hsend⟩
  sl_unfold [trip, k0_t1_body]
  sl_exec
  have eO : rcvOwe c (4 - t.val) = rcvOwe c (3 - t.val) + tallyAt (rcvCell (tgt c t.val 1) c) () N + tallyAt (rcvCell (tgt c t.val 0) c) () N := by
    rw [show 4 - t.val = (3 - t.val) + 1 by omega]; show rcvOwe c (3 - t.val) + tallyAt (rcvCell (tgt c (3 - (3 - t.val)) 1) c) () N + tallyAt (rcvCell (tgt c (3 - (3 - t.val)) 0) c) () N = _
    rw [show 3 - (3 - t.val) = t.val by omega]
  rw [eO]
  have hA : AcAt XA WA (pr c t.val) (trip_first.sl.Hac_16 c XA WA t) 7 := by
    refine AcAt.next XA WA _ (n := 6) (xb_cov XA) (WcAt.stored WA _ t _) ?_
    refine AcAt.next XA WA _ (n := 5) (xb_cov XA) (WcAt.stored WA _ t _) ?_
    refine AcAt.next XA WA _ (n := 4) (xb_cov XA) (WcAt.stored WA _ t _) ?_
    refine AcAt.next XA WA _ (n := 3) (xb_cov XA) (WcAt.stored WA _ t _) ?_
    refine AcAt.next XA WA _ (n := 2) (xb_cov XA) (WcAt.stored WA _ t _) ?_
    refine AcAt.next XA WA _ (n := 1) (xb_cov XA) (WcAt.stored WA _ t _) ?_
    refine AcAt.next XA WA _ (n := 0) (xb_cov XA) (WcAt.stored WA _ t _) ?_
    exact AcAt.first XA WA _ (xb_cov XA) (WcAt.stored WA _ t _)
  iapply (wp_send_blk V K c t.val 0 _ (dev9_eq c t) _ _) $$ [HR Hy0 Hr0 HW Ht0 Ht0']
  · isplitr; · iexact HR
    isplitl [Hy0]
    · unfold ysV; iexists _; isplitr; rotate_left; · iexact Hy0
      ipureintro
      rw [hV, prOf_tgt, dOf_tgt]
      exact AcAt.block0 XA WA _ (off30_eq t 0) hA
    isplitl [Hr0]; · iexact Hr0
    isplitl [HW]; · iexact HW
    isplitl [Ht0]; · iexact Ht0
    iexact Ht0'
  iintro ⟨Hc0, HW⟩
  sl_exec
  iapply (wp_send_blk V K c t.val 1 _ (dev10_eq c t) _ _) $$ [HR Hy1 Hr1 HW Ht1 Ht1']
  · isplitr; · iexact HR
    isplitl [Hy1]
    · unfold ysV; iexists _; isplitr; rotate_left; · iexact Hy1
      ipureintro
      rw [hV, prOf_tgt, dOf_tgt]
      exact AcAt.block1 XA WA _ (off30_eq t 1) hA
    isplitl [Hr1]; · iexact Hr1
    isplitl [HW]; · iexact HW
    isplitl [Ht1]; · iexact Ht1
    iexact Ht1'
  iintro ⟨Hc1, HW⟩
  simp only [Prog.pure_eq_ret]
  rw [wp_ret]; imodintro
  rw [show wState c WA (t.val + 1) = _ from if_pos (show t.val + 1 < 4 by omega), show xState c XA (t.val + 1) = _ from if_neg (Nat.succ_ne_zero _)]
  isplitr; · iexact HR
  isplitr; · iexact HL
  isplitl [HF0 HwR]
  · iapply (wflight_next c WA (off29_eq c t ht3) 0 1)
    isplitl [HF0]; · iexact HF0
    iexact HwR
  isplitl [Hx Hzx Hzx_dst Hxb]
  · unfold xDone
    isplitl [Hx]; · iexact Hx
    isplitl [Hzx]; · iexact Hzx
    isplitl [Hzx_dst]; · iexists _; iexact Hzx_dst
    iexists _; isplitr; rotate_left; · iexact Hxb
    ipureintro
    refine XbTo.all XA ?_
    refine XbTo.next XA (n := 7) (by decide) (cast_cov XA) ?_
    refine XbTo.next XA (n := 6) (by decide) (cast_cov XA) ?_
    refine XbTo.next XA (n := 5) (by decide) (cast_cov XA) ?_
    refine XbTo.next XA (n := 4) (by decide) (cast_cov XA) ?_
    refine XbTo.next XA (n := 3) (by decide) (cast_cov XA) ?_
    refine XbTo.next XA (n := 2) (by decide) (cast_cov XA) ?_
    refine XbTo.next XA (n := 1) (by decide) (cast_cov XA) ?_
    refine XbTo.next XA (n := 0) (by decide) (cast_cov XA) ?_
    exact XbTo.none XA _
  isplitl [Hw2 Hs1 Hz1 Hwc Hac]
  · isplitl [Hw2]; · iexact Hw2
    isplitl [Hs1]; · iexists _; iexact Hs1
    isplitl [Hz1]; · iexact Hz1
    isplitl [Hwc] <;> (iexists _; iassumption)
  isplitl [Hc0 Hc1 Hsend]
  · iapply Hsend; unfold sendPost
    isplitl [Hc0] <;> iassumption
  iexists _
  rw [show 4 - (t.val + 1) = 3 - t.val by omega]
  iexact HW
end Trip

end Cert.KernelIdeal.Pf

end
-- ==== Proof.TripMidKernelIdeal.lean ====
/-
# `KernelIdeal`: a trip between the first and the last

The trip run from the loop's invariant to the invariant of the next trip.
-/
module

public import proofs.«01_k».proof.Proof.GhostKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Trip
variable (V : Dev nD → Dev nD → S1024x512.Idx → Elt F .bf16) (K : Dev nD × Kd → ℕ)
variable (c : Dev nD) (XA : Buf (Elt F) (xM.view.loc (c : Thread nD τ))) (WA : Buf (Elt F) (wM.view.loc (c : Thread nD τ))) (v2 : BitVec 32)
variable (hV : ∀ p, V c p = blk XA WA (prOf p) (dOf p))

set_option maxHeartbeats 800000 in
include hV in
theorem trip_mid (t : Fin k0_t1_loop.trips) (ht : ¬ t.val = 0) (ht3 : t.val < 3) :
    Inv V K c XA WA t.val ⊢ wp frame (wpE (defs₀ (F := F)) 𝒱₀ (c : Thread nD τ) none) Set.univ (trip c v2 t) (fun _ => Inv V K c XA WA (t.val + 1)) := by
  have C1 := cond1_eq t
  have C3 := cond3_eq t
  have C5 := cond5_eq t
  have C7 := cond7_eq t
  have C9 := cond9_eq t
  have C11 := cond11_eq t
  have C13 := cond13_eq t
  have C15 := (cond15_iff t).mpr ht3
  have CF := first_neg ht
  have M0 : (levAts L lv : sProp 𝕄) ⊢ MayWait (c : Thread nD τ) (.dma (wsS 0).sem) () (rcvOwe c (4 - t.val)) := mayWait_of_above c _ 2 (by decide) (above_rcv c _)
  have M1 : (levAts L lv : sProp 𝕄) ⊢ MayWait (c : Thread nD τ) (.dma (wsS 1).sem) () (rcvOwe c (4 - t.val)) := mayWait_of_above c _ 2 (by decide) (above_rcv c _)
  have D2 := wblk_disjoint (q := 2) (q' := 0) (p := pr c t.val) (p' := pr c t.val) (.inl (by decide))
  have D4 := wblk_disjoint (q := 4) (q' := 0) (p := pr c t.val) (p' := pr c t.val) (.inl (by decide))
  have D6 := wblk_disjoint (q := 6) (q' := 0) (p := pr c t.val) (p' := pr c t.val) (.inl (by decide))
  have D8 := wblk_disjoint (q := 0) (q' := 0) (p := pr c (t.val + 1)) (p' := pr c t.val) (.inr (pr_next c ht3).symm)
  unfold Inv
  rw [show wState c WA t.val = _ from if_pos (show t.val < 4 by omega), show xState c XA t.val = _ from if_neg ht]
  unfold xDone work
  iintro ⟨#HR, #HL, ⟨⟨%f0, HF0⟩, HwR⟩, ⟨Hx, Hzx, ⟨%xi, Hxin⟩, ⟨%XB, %hXB, Hxb⟩⟩, ⟨Hw2, ⟨%f1, Hs1⟩, Hz1, ⟨%wc, Hwc⟩, ⟨%ac, Hac⟩⟩, Hsend, ⟨%W, HW⟩⟩
  ihave Hsend' := (sends_step c t.val (by omega)) $$ Hsend
  unfold sendPre
  icases Hsend' with ⟨⟨⟨%y0, Hy0⟩, ⟨%y1, Hy1⟩, Hr0, Hr1, Ht0, Ht0', Ht1, Ht1'⟩, Hsend⟩
  sl_unfold [trip, k0_t1_body]
  sl_exec
  have eO : rcvOwe c (4 - t.val) = rcvOwe c (3 - t.val) + tallyAt (rcvCell (tgt c t.val 1) c) () N + tallyAt (rcvCell (tgt c t.val 0) c) () N := by
    rw [show 4 - t.val = (3 - t.val) + 1 by omega]; show rcvOwe c (3 - t.val) + tallyAt (rcvCell (tgt c (3 - (3 - t.val)) 1) c) () N + tallyAt (rcvCell (tgt c (3 - (3 - t.val)) 0) c) () N = _
    rw [show 3 - (3 - t.val) = t.val by omega]
  rw [eO]
  have hA : AcAt XA WA (pr c t.val) (trip_mid.sl.Hac_16 c WA t XB) 7 := by
    iterate 7 refine AcAt.next XA WA _ ?_ ?_ ?_; exact (hXB _).symm; exact WcAt.stored WA _ t _
    refine AcAt.first XA WA _ ?_ ?_; exact (hXB _).symm; exact WcAt.stored WA _ t _
  iapply (wp_send_blk V K c t.val 0 _ (dev9_eq c t) _ _) $$ [HR Hy0 Hr0 HW Ht0 Ht0']
  · isplitr; · iexact HR
    isplitl [Hy0]
    · unfold ysV; iexists _; isplitr; rotate_left; · iexact Hy0
      ipureintro
      rw [hV, prOf_tgt, dOf_tgt]
      exact AcAt.block0 XA WA _ (off30_eq t 0) hA
    isplitl [Hr0]; · iexact Hr0
    isplitl [HW]; · iexact HW
    isplitl [Ht0]; · iexact Ht0
    iexact Ht0'
  iintro ⟨Hc0, HW⟩
  sl_exec
  iapply (wp_send_blk V K c t.val 1 _ (dev10_eq c t) _ _) $$ [HR Hy1 Hr1 HW Ht1 Ht1']
  · isplitr; · iexact HR
    isplitl [Hy1]
    · unfold ysV; iexists _; isplitr; rotate_left; · iexact Hy1
      ipureintro
      rw [hV, prOf_tgt, dOf_tgt]
      exact AcAt.block1 XA WA _ (off30_eq t 1) hA
    isplitl [Hr1]; · iexact Hr1
    isplitl [HW]; · iexact HW
    isplitl [Ht1]; · iexact Ht1
    iexact Ht1'
  iintro ⟨Hc1, HW⟩
  simp only [Prog.pure_eq_ret]
  rw [wp_ret]; imodintro
  rw [show wState c WA (t.val + 1) = _ from if_pos (show t.val + 1 < 4 by omega), show xState c XA (t.val + 1) = _ from if_neg (Nat.succ_ne_zero _)]
  isplitr; · iexact HR
  isplitr; · iexact HL
  isplitl [HF0 HwR]
  · iapply (wflight_next c WA (off29_eq c t ht3) 0 1)
    isplitl [HF0]; · iexact HF0
    iexact HwR
  isplitl [Hx Hzx Hxin Hxb]
  · unfold xDone
    isplitl [Hx]; · iexact Hx
    isplitl [Hzx]; · iexact Hzx
    isplitl [Hxin]; · iexists _; iexact Hxin
    iexists _; isplitr; rotate_left; · iexact Hxb
    ipureintro; exact hXB
  isplitl [Hw2 Hs1 Hz1 Hwc Hac]
  · isplitl [Hw2]; · iexact Hw2
    isplitl [Hs1]; · iexists _; iexact Hs1
    isplitl [Hz1]; · iexact Hz1
    isplitl [Hwc] <;> (iexists _; iassumption)
  isplitl [Hc0 Hc1 Hsend]
  · iapply Hsend; unfold sendPost
    isplitl [Hc0] <;> iassumption
  iexists _
  rw [show 4 - (t.val + 1) = 3 - t.val by omega]
  iexact HW
end Trip

end Cert.KernelIdeal.Pf

end
-- ==== Proof.TripLastKernelIdeal.lean ====
/-
# `KernelIdeal`: the last trip

No further block is on its way after it.
-/
module

public import proofs.«01_k».proof.Proof.GhostKernelIdeal

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Trip
variable (V : Dev nD → Dev nD → S1024x512.Idx → Elt F .bf16) (K : Dev nD × Kd → ℕ)
variable (c : Dev nD) (XA : Buf (Elt F) (xM.view.loc (c : Thread nD τ))) (WA : Buf (Elt F) (wM.view.loc (c : Thread nD τ))) (v2 : BitVec 32)
variable (hV : ∀ p, V c p = blk XA WA (prOf p) (dOf p))

set_option maxHeartbeats 800000 in
include hV in
theorem trip_last (t : Fin k0_t1_loop.trips) (ht : ¬ t.val = 0) (ht3 : t.val = 3) :
    Inv V K c XA WA t.val ⊢ wp frame (wpE (defs₀ (F := F)) 𝒱₀ (c : Thread nD τ) none) Set.univ (trip c v2 t) (fun _ => Inv V K c XA WA (t.val + 1)) := by
  have C1 := cond1_eq t
  have C3 := cond3_eq t
  have C5 := cond5_eq t
  have C7 := cond7_eq t
  have C9 := cond9_eq t
  have C11 := cond11_eq t
  have C13 := cond13_eq t
  have C15 : ¬ k0_cond15 t = 1#1 := fun h => absurd ((cond15_iff t).mp h) (by omega)
  have CF := first_neg ht
  have M0 : (levAts L lv : sProp 𝕄) ⊢ MayWait (c : Thread nD τ) (.dma (wsS 0).sem) () (rcvOwe c (4 - t.val)) := mayWait_of_above c _ 2 (by decide) (above_rcv c _)
  have M1 : (levAts L lv : sProp 𝕄) ⊢ MayWait (c : Thread nD τ) (.dma (wsS 1).sem) () (rcvOwe c (4 - t.val)) := mayWait_of_above c _ 2 (by decide) (above_rcv c _)
  have D2 := wblk_disjoint (q := 2) (q' := 0) (p := pr c t.val) (p' := pr c t.val) (.inl (by decide))
  have D4 := wblk_disjoint (q := 4) (q' := 0) (p := pr c t.val) (p' := pr c t.val) (.inl (by decide))
  have D6 := wblk_disjoint (q := 6) (q' := 0) (p := pr c t.val) (p' := pr c t.val) (.inl (by decide))
  unfold Inv
  rw [show wState c WA t.val = _ from if_pos (show t.val < 4 by omega), show xState c XA t.val = _ from if_neg ht]
  unfold xDone work
  iintro ⟨#HR, #HL, ⟨⟨%f0, HF0⟩, HwR⟩, ⟨Hx, Hzx, ⟨%xi, Hxin⟩, ⟨%XB, %hXB, Hxb⟩⟩, ⟨Hw2, ⟨%f1, Hs1⟩, Hz1, ⟨%wc, Hwc⟩, ⟨%ac, Hac⟩⟩, Hsend, ⟨%W, HW⟩⟩
  ihave Hsend' := (sends_step c t.val (by omega)) $$ Hsend
  unfold sendPre
  icases Hsend' with ⟨⟨⟨%y0, Hy0⟩, ⟨%y1, Hy1⟩, Hr0, Hr1, Ht0, Ht0', Ht1, Ht1'⟩, Hsend⟩
  sl_unfold [trip, k0_t1_body]
  sl_exec
  have eO : rcvOwe c (4 - t.val) = rcvOwe c (3 - t.val) + tallyAt (rcvCell (tgt c t.val 1) c) () N + tallyAt (rcvCell (tgt c t.val 0) c) () N := by
    rw [show 4 - t.val = (3 - t.val) + 1 by omega]; show rcvOwe c (3 - t.val) + tallyAt (rcvCell (tgt c (3 - (3 - t.val)) 1) c) () N + tallyAt (rcvCell (tgt c (3 - (3 - t.val)) 0) c) () N = _
    rw [show 3 - (3 - t.val) = t.val by omega]
  rw [eO]
  have hA : AcAt XA WA (pr c t.val) (trip_last.sl.Hac_16 c WA t XB) 7 := by
    iterate 7 refine AcAt.next XA WA _ ?_ ?_ ?_; exact (hXB _).symm; exact WcAt.stored WA _ t _
    refine AcAt.first XA WA _ ?_ ?_; exact (hXB _).symm; exact WcAt.stored WA _ t _
  iapply (wp_send_blk V K c t.val 0 _ (dev9_eq c t) _ _) $$ [HR Hy0 Hr0 HW Ht0 Ht0']
  · isplitr; · iexact HR
    isplitl [Hy0]
    · unfold ysV; iexists _; isplitr; rotate_left; · iexact Hy0
      ipureintro
      rw [hV, prOf_tgt, dOf_tgt]
      exact AcAt.block0 XA WA _ (off30_eq t 0) hA
    isplitl [Hr0]; · iexact Hr0
    isplitl [HW]; · iexact HW
    isplitl [Ht0]; · iexact Ht0
    iexact Ht0'
  iintro ⟨Hc0, HW⟩
  sl_exec
  iapply (wp_send_blk V K c t.val 1 _ (dev10_eq c t) _ _) $$ [HR Hy1 Hr1 HW Ht1 Ht1']
  · isplitr; · iexact HR
    isplitl [Hy1]
    · unfold ysV; iexists _; isplitr; rotate_left; · iexact Hy1
      ipureintro
      rw [hV, prOf_tgt, dOf_tgt]
      exact AcAt.block1 XA WA _ (off30_eq t 1) hA
    isplitl [Hr1]; · iexact Hr1
    isplitl [HW]; · iexact HW
    isplitl [Ht1]; · iexact Ht1
    iexact Ht1'
  iintro ⟨Hc1, HW⟩
  simp only [Prog.pure_eq_ret]
  rw [wp_ret]; imodintro
  rw [show wState c WA (t.val + 1) = _ from if_neg (show ¬ t.val + 1 < 4 by omega), show xState c XA (t.val + 1) = _ from if_neg (Nat.succ_ne_zero _)]
  isplitr; · iexact HR
  isplitr; · iexact HL
  isplitl [HF0_dst HF0 HwR]
  · isplitl [HF0_dst]; · iexists _; iexact HF0_dst
    isplitl [HF0]; · iexact HF0
    iexact HwR
  isplitl [Hx Hzx Hxin Hxb]
  · unfold xDone
    isplitl [Hx]; · iexact Hx
    isplitl [Hzx]; · iexact Hzx
    isplitl [Hxin]; · iexists _; iexact Hxin
    iexists _; isplitr; rotate_left; · iexact Hxb
    ipureintro; exact hXB
  isplitl [Hw2 Hs1 Hz1 Hwc Hac]
  · isplitl [Hw2]; · iexact Hw2
    isplitl [Hs1]; · iexists _; iexact Hs1
    isplitl [Hz1]; · iexact Hz1
    isplitl [Hwc] <;> (iexists _; iassumption)
  isplitl [Hc0 Hc1 Hsend]
  · iapply Hsend; unfold sendPost
    isplitl [Hc0] <;> iassumption
  iexists _
  rw [show 4 - (t.val + 1) = 3 - t.val by omega]
  iexact HW
end Trip

end Cert.KernelIdeal.Pf

end
-- ==== Proof.LaunchKernelIdeal.lean ====
/-
# `KernelIdeal`: the run

From any memory with every counter at zero: each device's buffers and its part of the schedule make up what its run
starts with, and what the runs leave is read off the final state — the arguments as they were, the result's blocks, and
every counter at zero again.
-/
module

public import proofs.«01_k».proof.Proof.SetupKernelIdeal
public import proofs.«01_k».proof.Proof.BodyKernelIdeal
public import proofs.«01_k».proof.Proof.TripFirstKernelIdeal
public import proofs.«01_k».proof.Proof.TripMidKernelIdeal
public import proofs.«01_k».proof.Proof.TripLastKernelIdeal
public import Idealize.ShloMosaic.Lib.Pipeline.CollectiveSegs

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section Device
variable (V : Dev nD → Dev nD → S1024x512.Idx → Elt F .bf16) (K : Dev nD × Kd → ℕ)
variable (c : Dev nD) (XA : Buf (Elt F) (xM.view.loc (c : Thread nD τ))) (WA : Buf (Elt F) (wM.view.loc (c : Thread nD τ)))

set_option maxHeartbeats 1000000 in
/-- Every trip keeps the invariant. -/
theorem trip_step (hV : ∀ p, V c p = blk XA WA (prOf p) (dOf p)) (v2 : BitVec 32) (t : Fin k0_t1_loop.trips) :
    Inv V K c XA WA t.val ⊢ wp frame (wpE (defs₀ (F := F)) 𝒱₀ (c : Thread nD τ) none) Set.univ (trip c v2 t) (fun _ => Inv V K c XA WA (t.val + 1)) := by
  have h4 : t.val < 4 := t.isLt
  by_cases h0 : t.val = 0
  · have h := trip_first V K c XA WA v2 hV t h0
    exact h
  by_cases h3 : t.val = 3
  · have h := trip_last V K c XA WA v2 hV t h0 h3
    exact h
  · have h := trip_mid V K c XA WA v2 hV t h0 (by omega)
    exact h

/-! ## A device's start and end -/

/-- What a device's run starts with: its part of the schedule, its credits, and the three buffers of `@main`. -/
def start : sProp 𝕄 :=
  iprop(G' V c ∗ levAts L lv ∗ (bigSep Finset.univ fun k : Kd => cred (tallyAt (kcell (c, k)) () (∑ d, due d k)))
    ∗ (xM.view.loc (c : Thread nD τ) ↦{fullShare} XA) ∗ (wM.view.loc (c : Thread nD τ) ↦{fullShare} WA) ∗ ∃ f, outM.view.loc (c : Thread nD τ) ↦{fullShare} f)
/-- The local buffers. -/
abbrev scratch : sProp 𝕄 := Pipeline.scopedRest (Ix := Unit) (Name := ℕ) (U := UU) (Lvl := ℕ) (Val := Elt F) cfg0.spec c
/-- The result in place. -/
def resultAt : sProp 𝕄 := iprop(∃ f, ⌜OutTo (fun s => V s c) 8 f⌝ ∗ (outM.view.loc (c : Thread nD τ) ↦{fullShare} f))
/-- What it leaves: every counter at zero, the local buffers, the arguments and the result. -/
def done : sProp 𝕄 :=
  iprop((cells0 c ∗ zeros c) ∗ scratch c ∗ (xM.view.loc (c : Thread nD τ) ↦{fullShare} XA) ∗ (wM.view.loc (c : Thread nD τ) ↦{fullShare} WA) ∗ resultAt V c)

theorem own_whole {sp : Space} {s : Shape} {dt : EltTy} (A : Memref sig .tc sp s dt) (h : A.view.set = Finset.univ) (f : Buf (Elt F) (A.view.loc (c : Thread nD τ))) :
    (own c A f : sProp 𝕄) = iprop(A.view.loc (c : Thread nD τ) ↦{fullShare} f) := by
  show iprop(A.view.loc (c : Thread nD τ) ↦[A.view.set]{fullShare} f) = _
  rw [h]

theorem whole_own {sp : Space} {s : Shape} {dt : EltTy} (A : Memref sig .tc sp s dt) (h : A.view.set = Finset.univ) :
    (iprop(∃ f, A.view.loc (c : Thread nD τ) ↦{fullShare} f) : sProp 𝕄) ⊢ iprop(∃ f, own c A f) := by
  iintro ⟨%f, H⟩; iexists f; iapply (Entails.of_eq (own_whole c A h f).symm); iexact H
theorem own_full {sp : Space} {s : Shape} {dt : EltTy} (A : Memref sig .tc sp s dt) (h : A.view.set = Finset.univ) :
    (iprop(∃ f, own c A f) : sProp 𝕄) ⊢ iprop(∃ f, A.view.loc (c : Thread nD τ) ↦{fullShare} f) := by
  iintro ⟨%f, H⟩; iexists f; iapply (Entails.of_eq (own_whole c A h f)); iexact H

theorem pairOf {M : Type} [URA M] (Φ : Fin 2 → sProp M) : bigSep Finset.univ Φ = iprop(Φ 0 ∗ Φ 1) := bigSep_univ_eq_bigSepL [0, 1] (by decide) (by decide) Φ

/-- The local buffers as the run uses them, -/
theorem scratch_split : (scratch c : sProp 𝕄)
    ⊢ iprop(bufs c ∗ (bigSep Finset.univ fun j : Fin 8 => iprop(∃ f, ysP c j f)) ∗ bigSep Finset.univ fun s : Fin 8 => iprop(∃ f, rsP c s f)) := by
  unfold scratch bufs
  rw [scopedRest0_eq]
  iintro ⟨H0, H1, ⟨%f2, H2⟩, ⟨%f3, H3⟩, H4, ⟨%f5, H5⟩, H6, H7⟩
  ihave H2' := (ys_split c f2) $$ H2
  ihave H3' := (rs_split c f3) $$ H3
  ihave H5' := ((ws_split c f5).trans (Entails.of_eq (pairOf _))) $$ H5
  icases H5' with ⟨H5a, H5b⟩
  isplitr [H2' H3']
  · isplitl [H0]; · iapply (whole_own c xbM (View.set_whole _)); iexact H0
    isplitl [H1]; · iapply (whole_own c xinM (View.set_whole _)); iexact H1
    isplitl [H4]; · iapply (whole_own c stM (View.set_whole _)); iexact H4
    isplitl [H5a]; · iexact H5a
    isplitl [H5b]; · iexact H5b
    isplitl [H6]; · iapply (whole_own c wcM (View.set_whole _)); iexact H6
    iapply (whole_own c acM (View.set_whole _)); iexact H7
  isplitl [H2'] <;> iassumption
/-- and whole again. -/
theorem scratch_join : iprop(bufs c ∗ (bigSep Finset.univ fun j : Fin 8 => iprop(∃ f, ysP c j f)) ∗ bigSep Finset.univ fun s : Fin 8 => iprop(∃ f, rsP c s f))
    ⊢ (scratch c : sProp 𝕄) := by
  have y0 : Nonempty (Buf (Elt F) (ysM.view.loc (c : Thread nD τ))) := inferInstance
  have r0 : Nonempty (Buf (Elt F) (rcM.view.loc (c : Thread nD τ))) := inferInstance
  have w0 : Nonempty (Buf (Elt F) (wbM.view.loc (c : Thread nD τ))) := inferInstance
  unfold scratch bufs
  rw [scopedRest0_eq]
  iintro ⟨⟨H0, H1, H4, H5a, H5b, H6, H7⟩, H2, H3⟩
  isplitl [H0]; · iapply (own_full c xbM (View.set_whole _)); iexact H0
  isplitl [H1]; · iapply (own_full c xinM (View.set_whole _)); iexact H1
  isplitl [H2]; · iapply (ys_join c y0.some); iexact H2
  isplitl [H3]; · iapply (rs_join c r0.some); iexact H3
  isplitl [H4]; · iapply (own_full c stM (View.set_whole _)); iexact H4
  isplitl [H5a H5b]
  · iapply ((Entails.of_eq (pairOf (fun j => iprop(∃ f, wsP (F := F) c j f))).symm).trans (ws_join c w0.some))
    isplitl [H5a] <;> iassumption
  isplitl [H6]; · iapply (own_full c wcM (View.set_whole _)); iexact H6
  iapply (own_full c acM (View.set_whole _)); iexact H7

/-- A wait's position with its credit, for all the receives. -/
theorem waits_rcv : iprop((bigSep Finset.univ fun s : Fin 8 => (atPos ER (rcvCell c s) 0 ∅ 0 : sProp 𝕄))
      ∗ bigSep Finset.univ fun s : Fin 8 => cred (tallyAt (kcell (c, .inr (false, s))) () (∑ d, due d (.inr (false, s)))))
    ⊢ chain (fun s => waiting c (.inr (false, s)) N) 8 := by
  rw [← chain_eq, ← bigSep_sep']
  exact bigSep_mono fun s _ => by rw [due_rcv]; exact Idealize.SL.BI.Entails.refl _
theorem toks_bar : iprop((bigSep Finset.univ fun p : Dev nD => (dutyTok ER (barCell p) 0 c : sProp 𝕄)) ∗ bigSep Finset.univ fun s : Fin 8 => iprop(∃ f, rsP c s f))
    ⊢ chain (barTok c) 8 := by
  rw [← chain_eq, ← bigSep_sep']

theorem start_body : iprop(start V c XA WA ∗ scratch c ∗ ∃ W, owes (c : Thread nD τ) (O₀ c) W) ⊢ iprop(∃ K, bodyStart V K c XA WA ∗ wSpare c WA) := by
  unfold start G' alone dutiesBy bodyStart mine args
  rw [bigSep_kind, bigSep_kind, bigSep_lot, bigSep_lot, due_reg, due_reg]
  iintro ⟨⟨⟨⟨%K, HR, ⟨⟨HaB, HaF⟩, HaS, HaV⟩, ⟨HtB, HtF⟩, HtS, HtV⟩, Hz⟩, HL, ⟨⟨HcB, HcF⟩, -, HcV⟩, Hx, Hw, Ho⟩, Hs, HO⟩
  ihave Hs' := (scratch_split c) $$ Hs
  icases Hs' with ⟨Hb, Hys, Hrs⟩
  ihave Hw' := (w_shares c WA).1 $$ Hw
  icases Hw' with ⟨Hsp, Hw1, Hw2⟩
  iexists K
  isplitr [Hsp]
  · isplitl [HR]; · iexact HR
    isplitl [HL]; · iexact HL
    isplitl [HO]; · iexact HO
    isplitl [HtB Hrs]
    · iapply (toks_bar c); isplitl [HtB] <;> iassumption
    isplitl [HaB HcB]; · isplitl [HaB] <;> iassumption
    isplitl [HtF]
    · iapply (Entails.of_eq (chain_eq (finTok c))); iexact HtF
    isplitl [HaF HcF]; · isplitl [HaF] <;> iassumption
    isplitl [Hys HtS HtV]
    · isplitl [Hys]; · iexact Hys
      isplitl [HtS] <;> iassumption
    isplitl [HaV HcV]
    · iapply (waits_rcv c); isplitl [HaV] <;> iassumption
    isplitl [HaS]
    · iapply (Entails.of_eq (chain_eq fun j => (atPos ER (sndCell c j) 0 ∅ 0 : sProp 𝕄))); iexact HaS
    isplitl [Hz]; · iexact Hz
    isplitl [Hb]; · iexact Hb
    isplitr [Ho]
    · isplitl [Hx]; · iexact Hx
      isplitl [Hw1] <;> iassumption
    iexact Ho
  iexact Hsp

theorem body_done : iprop(bodyEnd V c XA WA ∗ wSpare c WA) ⊢ iprop(done V c XA WA ∗ ∃ W, owes (c : Thread nD τ) 0 W) := by
  unfold bodyEnd done args resultAt sndPay
  rw [← chain_eq, ← chain_eq, ← chain_eq, ← chain_eq]
  iintro ⟨⟨HB, HF, HV, HS, Hz, Hrs, Hys, Hb, ⟨Hx, Hw1, Hw2⟩, Ho, HO⟩, Hsp⟩
  isplitr [HO]
  · isplitl [HB HF HV HS Hz]
    · isplitr [Hz]
      · iapply (Entails.of_eq (bigSep_kind (fun k : Kd => (semVal (kcell (c, k)) 0 : sProp 𝕄))).symm)
        isplitl [HB HF]; · isplitl [HB] <;> iassumption
        iapply (Entails.of_eq (bigSep_lot (fun bj : Bool × Fin 8 => (semVal (kcell (c, .inr bj)) 0 : sProp 𝕄))).symm)
        isplitl [HS] <;> iassumption
      iexact Hz
    isplitl [Hrs Hys Hb]
    · iapply (scratch_join c)
      isplitl [Hb]; · iexact Hb
      isplitl [Hys] <;> iassumption
    isplitl [Hx]; · iexact Hx
    isplitl [Hw1 Hw2 Hsp]
    · iapply (w_shares c WA).2
      isplitl [Hsp]; · iexact Hsp
      isplitl [Hw1] <;> iassumption
    iexact Ho
  iexact HO

/-- A device's run from its start to its end. -/
theorem device_run (hV : ∀ p, V c p = blk XA WA (prOf p) (dOf p)) : iprop(start V c XA WA ∗ scratch c ∗ ∃ W, owes (c : Thread nD τ) (O₀ c) W)
    ⊢ wp frame (wpE (defs₀ (F := F)) 𝒱₀ (c : Thread nD τ) none) Set.univ
      (cc0_body (F := F) xM (Memref.isWhole_whole _) wM (Memref.isWhole_whole _) outM (Memref.isWhole_whole _) xbM (Memref.isWhole_whole _) xinM (Memref.isWhole_whole _)
        ysM (Memref.isWhole_whole _) rcM (Memref.isWhole_whole _) stM (Memref.isWhole_whole _) wbM (Memref.isWhole_whole _) wcM (Memref.isWhole_whole _) acM (Memref.isWhole_whole _)
        cc0_scratch8 cc0_scratch9 cc0_scratch10 cc0_scratch11 cc0_scratch12 cc0_scoped0) (fun _ => iprop(done V c XA WA ∗ ∃ W, owes (c : Thread nD τ) 0 W)) := by
  refine (start_body V c XA WA).trans ?_
  iintro ⟨%K, Hst, Hsp⟩
  iapply (wp_wand_r frame (wpE (defs₀ (F := F)) 𝒱₀ (c : Thread nD τ) none) Set.univ)
  isplitl [Hst]
  · iapply (body_run V K c XA WA (trip_step V K c XA WA hV)); iexact Hst
  iintro %u He
  iapply (body_done V c XA WA)
  isplitl [He] <;> iassumption

end Device

/-! ## The launch -/

section Launch
variable (m : (ℓ : Loc nD τ sig) → Buf (Elt F) ℓ) (ρ : Dev nD → PrngReg)

abbrev xOf (c : Dev nD) : Buf (Elt F) (xM.view.loc (c : Thread nD τ)) := m ((c : Thread nD τ).loc main_arg0)
abbrev wOf (c : Dev nD) : Buf (Elt F) (wM.view.loc (c : Thread nD τ)) := m ((c : Thread nD τ).loc main_arg1)
/-- The block device `s` sends device `p`. -/
def sent (s p : Dev nD) : S1024x512.Idx → Elt F .bf16 := blk (xOf m s) (wOf m s) (prOf p) (dOf p)

def dats (_ : Fin 1) (c : Dev nD) : Dat τ (Elt F) Unit ℕ UU ℕ cfg0 c where
  A w := w.elim0
  after w := w.elim0
  Φ t := if t.val = 0 then iprop(start (sent m) c (xOf m c) (wOf m c) ∗ scratch c) else done (sent m) c (xOf m c) (wOf m c)
  q w := w.elim0
  owed t := if t.val = 0 then O₀ c else 0

theorem Φ_first (c : Dev nD) (t : Fin (cfg0.N + 1)) (h : t.val = 0) : (dats (F := F) m 0 c).Φ t = iprop(start (sent m) c (xOf m c) (wOf m c) ∗ scratch c) := if_pos h
theorem Φ_last (c : Dev nD) (t : Fin (cfg0.N + 1)) (h : t.val ≠ 0) : (dats (F := F) m 0 c).Φ t = done (sent m) c (xOf m c) (wOf m c) := if_neg h
theorem owed_first (c : Dev nD) (t : Fin (cfg0.N + 1)) (h : t.val = 0) : (dats (F := F) m 0 c).owed t = O₀ c := if_pos h
theorem owed_last (c : Dev nD) (t : Fin (cfg0.N + 1)) (h : t.val ≠ 0) : (dats (F := F) m 0 c).owed t = 0 := if_neg h
theorem last_ne : (Fin.last cfg0.N).val ≠ 0 := by rw [Fin.val_last, show cfg0.N = 1 from N_0]; decide

theorem owesAt_out (c : Dev nD) (t : Fin (cfg0.N + 1)) {O : CellTallies nD τ sig Unit} (h : (dats (F := F) m 0 c).owed t = O) :
    ((dats (F := F) m 0 c).owesAt () t : sProp 𝕄) ⊢ iprop(∃ W, owes (c : Thread nD τ) O W) := by
  unfold Dat.owesAt Pipeline.owesWithin; rw [h]
  iintro ⟨%W, -, H⟩; iexists W; iexact H
theorem owesAt_in (c : Dev nD) (t : Fin (cfg0.N + 1)) {O : CellTallies nD τ sig Unit} (h : (dats (F := F) m 0 c).owed t = O) :
    iprop(∃ W, owes (c : Thread nD τ) O W) ⊢ ((dats (F := F) m 0 c).owesAt () t : sProp 𝕄) := by
  unfold Dat.owesAt Pipeline.owesWithin; rw [h]
  iintro ⟨%W, H⟩; iexists W
  isplitr; · ipureintro; exact fun _ _ => Or.inl trivial
  iexact H

theorem noWindow (Φ : Fin cfg0.W → sProp 𝕄) : bigSep Finset.univ Φ = (iprop(emp) : sProp 𝕄) := bigSep_univ_eq_bigSepL [] (by decide) (by decide) Φ

theorem body_obligation (c : Dev nD) : BodyObligation (dats (F := F) m 0 c) (defs₀ (F := F)) 𝒱₀ () Set.univ := fun t => by
  rw [fin_N0 t, noWindow, noWindow, Φ_first m c _ rfl, Φ_last m c _ (by decide)]
  iintro ⟨⟨Hst, Hsc⟩, HO, -⟩
  ihave HO' := (owesAt_out m c _ (owed_first m c _ rfl)) $$ HO
  iapply (wp_wand_r frame (wpE (defs₀ (F := F)) 𝒱₀ (c : Thread nD τ) none) Set.univ)
  isplitl
  · iapply (device_run (sent m) c (xOf m c) (wOf m c) fun p => rfl)
    isplitl [Hst]; · iexact Hst
    isplitl [Hsc] <;> iassumption
  iintro %u ⟨Hd, HO⟩
  isplitl [Hd]; · iexact Hd
  isplitl
  · iapply (owesAt_in m c _ (owed_last m c _ (by decide))); iexact HO
  iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sent m) c)
      ⊢ |={Set.univ}=> iprop(start (sent m) c (xOf m c) (wOf m c) ∗ emp) := by
  rw [Pipeline.unscopedRestP_none, unscopedRest0_eq]
  unfold start
  iintro ⟨⟨Hx, Hw, Ho⟩, Hlev, Hcr, -, HG⟩
  ihave Hc := (credits (F := F) c) $$ Hcr
  imodintro
  isplitl
  · isplitl [HG]; · iexact HG
    isplitl [Hlev]; · iexact Hlev
    isplitl [Hc]; · iexact Hc
    isplitl [Hx]; · iexact Hx
    isplitl [Hw]; · iexact Hw
    iexists _; iexact Ho
  · iempintro

theorem enter (c : Dev nD) :
    iprop(start (sent m) c (xOf m c) (wOf m c) ∗ Pipeline.prefHeld Pipeline.Prefetch.none c (fun _ => fullShare.right) (fun k => k.elim0) ∗ Pipeline.scopedRest cfg0.spec c)
      ⊢ (dats m 0 c).Φ 0 := by
  rw [Φ_first m c 0 rfl]
  iintro ⟨Hs, -, Hr⟩
  isplitl [Hs] <;> iassumption

/-- What is read of a device at the end. -/
def left (c : Dev nD) : sProp 𝕄 :=
  iprop(unscopedSems0 c ∗ (xM.view.loc (c : Thread nD τ) ↦{fullShare} xOf m c) ∗ (wM.view.loc (c : Thread nD τ) ↦{fullShare} wOf m c) ∗ resultAt (sent m) c)
theorem leave (c : Dev nD) : (dats m 0 c).Φ (Fin.last cfg0.N) ⊢ iprop(left m c ∗ Pipeline.ownSems0 osem c ∗ Pipeline.scopedRest cfg0.spec c) := by
  rw [Φ_last m c _ last_ne]
  unfold done left
  iintro ⟨Hz, Hs, Hx, Hw, Ho⟩
  ihave Hz' := (sems_join c) $$ Hz
  icases Hz' with ⟨Hu, Hos⟩
  isplitr [Hos Hs]
  · isplitl [Hu]; · iexact Hu
    isplitl [Hx]; · iexact Hx
    isplitl [Hw] <;> iassumption
  isplitl [Hos] <;> iassumption

/-- What device `c`'s memory holds at the end. -/
def Final (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ OutTo (fun p => sent m p c) 8 (s.mem ((c : Thread nD τ).loc main_v1))

theorem readOne {ℓ : Loc nD τ sig} (f : Buf (Elt F) ℓ) (s : Phys nD τ sig (Elt F)) :
    iprop((ℓ ↦{fullShare} f) ∗ SI s) ⊢ (iprop(⌜s.mem.mem ℓ = f⌝ ∗ SI s) : sProp 𝕄) := by
  iintro ⟨H, HSI⟩
  icombine HSI H gives %h
  isplitr; · ipureintro; exact Buf.eq_of_forall_mem_univ h
  iexact HSI

theorem read_left (c : Dev nD) (s' : Phys nD τ sig (Elt F)) :
    iprop(left m c ∗ emp ∗ SI s')
      ⊢ |={Set.univ}=> iprop(⌜(∀ sm : SemLoc sig, sm.isScoped .tc = false → s'.mem.sem ((c.tc : Thread nD τ), sm) = 0) ∧ Final m c s'.mem⌝ ∗ SI s' : sProp 𝕄) := by
  unfold left resultAt
  iintro ⟨⟨Hu, Hx, Hw, %f, %hf, Ho⟩, -, HSI⟩
  ihave H1 := (readOne (F := F) _ s') $$ [Hx HSI]
  · isplitl [Hx] <;> iassumption
  icases H1 with ⟨%hx, HSI⟩
  ihave H2 := (readOne (F := F) _ s') $$ [Hw HSI]
  · isplitl [Hw] <;> iassumption
  icases H2 with ⟨%hw, HSI⟩
  ihave H3 := (readOne (F := F) _ s') $$ [Ho HSI]
  · isplitl [Ho] <;> iassumption
  icases H3 with ⟨%ho, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hx, hw, by rw [← ho] at hf; exact hf⟩
  iexact HSI

theorem waits (c : Dev nD) : (levAts L lv : sProp 𝕄) ⊢ Pipeline.cellsWaits cfgs (dats m) () 0 c :=
  Pipeline.cellsWaits_intro cfgs (dats m) () 0 c fun w => w.elim0

set_option maxRecDepth 16384 in
/-- From any memory with every counter at zero, under every fair schedule, the eight devices' kernels end: each device's
    arguments are as they were, its result holds the eight blocks sent to it, and every counter is at zero. -/
theorem run : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => w.elim0) (harr := arr_whole0) (hstage := stage_whole0) (hshare := fun _ w => w.elim0)
    (hdistinct := winFacts0.arr_inj)
    (O₀ := O₀) (howed₀ := fun c => owed_first m c 0 rfl) (howedN := fun c => owed_last m c _ last_ne)
    (L := L) (lv := lv) (hL := L_of_ne) (hwaits := waits m)
    (G := G (sent m)) (G' := G' (sent m)) (u₀ := u₀)
    (hu₀ := by
      unfold u₀
      iintro Hu
      ihave H := (ownU_three _ _) $$ Hu
      icases H with ⟨HP, HX⟩
      imod (G_intro (sent m)) $$ HX with HG
      imodintro
      isplitl [HP] <;> iassumption)
    (hglob := glob (sent m))
    (hA := fun _ w => w.elim0) (hpf := fun _ k => k.elim0)
    (X := fun c => start (sent m) c (xOf m c) (wOf m c)) (Y := left m) (Z := fun _ => iprop(emp))
    (hX := start_intro m ρ) (hin := enter m) (hout := leave m)
    (QY := fun c s => (∀ sm : SemLoc sig, sm.isScoped .tc = false → s.sem ((c.tc : Thread nD τ), sm) = 0) ∧ Final m c s)
    (hY := read_left m)
    (hQ := fun _ h hs => ⟨fun c => (h c).2.2.2, sem_eq_zero hs fun c => (h c).2.2.1⟩)

end Launch

end Cert.KernelIdeal.Pf

end
-- ==== Proof.Silu.lean ====
/-
# The kernel's quotient and the reference's

The kernel multiplies a value by one over one plus the exponential of its negative; the reference divides the value by
one plus the exponential of the negative of the value clipped to sixty either way. For a value within sixty the two
are one number.
-/
module

public import Idealize.ShloMosaic.PureOps.Ideal.Laws
public import Idealize.ShloMosaic.Lib.IdealHost

@[expose] public section

noncomputable section

namespace Cert.Pf

open Idealize.ShloMosaic
open scoped BigOperators

theorem ofBits_sixty : Ideal.ofBits .f32 0x42700000#32 = ((60 : ℝ) : EReal) := by
  simp [Ideal.ofBits, Ideal.ieee, -EReal.coe_mul, -EReal.coe_neg]; norm_num
theorem ofBits_neg_sixty : Ideal.ofBits .f32 0xC2700000#32 = ((-60 : ℝ) : EReal) := by
  simp [Ideal.ofBits, Ideal.ieee, -EReal.coe_mul, -EReal.coe_neg]; norm_num

/-- The kernel's last step on one value; -/
def siluK (v : EReal) : EReal := v * Ideal.div (Ideal.ofBits .f32 0x3F800000#32) (Ideal.ofBits .f32 0x3F800000#32 + Ideal.exp (Ideal.ofBits .f32 0x00000000#32 - v))
/-- the reference's. -/
def siluR (v : EReal) : EReal :=
  Ideal.div v (Ideal.ofBits .f32 0x3F800000#32 + Ideal.exp (-(min (Ideal.ofBits .f32 0x42700000#32) (max (Ideal.ofBits .f32 0xC2700000#32) v))))

/-- Within sixty they agree. -/
theorem siluK_eq (v : EReal) (h : max v (-v) ≤ Ideal.ofBits .f32 0x42700000#32) : siluK v = siluR v := by
  unfold siluK siluR
  rw [ofBits_sixty] at h ⊢
  rw [ofBits_neg_sixty, Ideal.ofBits_one_f32, Ideal.ofBits_zero_f32]
  obtain ⟨h1, h2⟩ := max_le_iff.1 h
  have hl : ((-60 : ℝ) : EReal) ≤ v := by
    have := EReal.neg_le_neg_iff.2 h2
    rwa [neg_neg, ← EReal.coe_neg] at this
  rw [max_eq_right hl, min_eq_right h1, zero_sub]
  have hb : v ≠ ⊥ := fun e => absurd (e ▸ hl) (by simp)
  have ht : v ≠ ⊤ := fun e => absurd (e ▸ h1) (by simp)
  lift v to ℝ using ⟨ht, hb⟩
  have hp : (1 + Real.exp (-v)) ≠ 0 := (by positivity : 0 < 1 + Real.exp (-v)).ne'
  have he : Ideal.exp (-(v : EReal)) = ((Real.exp (-v) : ℝ) : EReal) := rfl
  have hd : (1 : EReal) + ((Real.exp (-v) : ℝ) : EReal) = ((1 + Real.exp (-v) : ℝ) : EReal) := by push_cast; rfl
  have hz : ((1 + Real.exp (-v) : ℝ) : EReal) ≠ 0 := fun e => hp (EReal.coe_eq_zero.1 e)
  rw [he, hd, Ideal.div, Ideal.div, if_neg hz, if_neg hz, one_mul]

/-- A sum over eight times 1,024 places, block by block. -/
theorem sum_blocks (f : Fin 8192 → EReal) : ∑ j : Fin 8, ∑ q : Fin 1024, f ⟨1024 * j.val + q.val, by omega⟩ = ∑ i, f i := by
  rw [← Fintype.sum_prod_type' (f := fun (j : Fin 8) (q : Fin 1024) => f ⟨1024 * j.val + q.val, by omega⟩)]
  refine Fintype.sum_equiv (finProdFinEquiv (m := 8) (n := 1024)) _ _ fun x => congrArg f (Fin.ext ?_)
  show 1024 * x.1.val + x.2.val = x.2.val + 1024 * x.1.val
  omega

end Cert.Pf

end
-- ==== Proof.Blocks.lean ====
/-
# The blocks sent, over the extended reals

Each block's accumulated sum is one row of `x` against one column of the weights: the eight products' sums run together
through all 8,192 places. With the kernel's last step within sixty, a device's result is its columns of the reference's.
-/
module

public import proofs.«01_k».proof.Proof.OutKernelIdeal
public import proofs.«01_k».proof.Proof.Silu
public import proofs.«01_k».proof.Proof.Gen.ReferenceIdeal
public import proofs.«01_k».proof.Proof.Gen.Pre_in_clip_KernelIdeal
public import Idealize.ShloMosaic.Lib.MatmulPlain
public import Idealize.ShloMosaic.Lib.StackMember
public import Idealize.ShloMosaic.Lib.ReduceAll
public import Idealize.ShloMosaic.Lib.Layout
public import Idealize.ShloMosaic.Lib.ValueIdxCore

@[expose] public section

set_option maxRecDepth 16384

noncomputable section

namespace Cert.Pf

open Cert.KernelIdeal Cert.KernelIdeal.Gen Cert.KernelIdeal.Pf
open Idealize.ShloMosaic Idealize.ShloMosaic.TcCoe Idealize.ShloMosaic.ValueIdx
open scoped BigOperators

abbrev S8192x8192 : Shape := ⟨2, ![8192, 8192]⟩

/-! ## A row of the product -/

section Kernel
variable (XA : S1024x8192.Idx → EReal) (WA : S8192x4096.Idx → EReal)

/-- Row `r` of a device's rows of `x` against column `l` of the weights. -/
def rowCol (r : Fin 1024) (l : Fin 4096) : EReal := ∑ i : Fin 8192, XA (ix2 r i) * WA (ix2 i l)

theorem xk_at (k : Fin 8) (r : Fin 1024) (q : Fin 1024) : xk (F := Ideal) XA k (ix2 r q) = XA (ix2 r ⟨1024 * k.val + q.val, by omega⟩) := by
  show XA _ = XA _
  refine congrArg XA (funext fun a => Fin.ext ?_)
  match a with
  | ⟨0, _⟩ => show 0 + 1 * r.val = r.val; omega
  | ⟨1, _⟩ => show 1024 * k.val + 1 * q.val = 1024 * k.val + q.val; omega
theorem wk_at (k : Fin 8) (p : Fin 4) (d : Fin 2) (q : Fin 1024) (l : Fin 512) :
    hf d (wk (F := Ideal) WA k p) (ix2 q l) = WA (ix2 ⟨1024 * k.val + q.val, by omega⟩ ⟨512 * (2 * p.val + d.val) + l.val, by omega⟩) := by
  show WA _ = WA _
  refine congrArg WA (funext fun a => Fin.ext ?_)
  match a with
  | ⟨0, _⟩ => show 1024 * k.val + 1 * (0 + 1 * q.val) = 1024 * k.val + q.val; omega
  | ⟨1, _⟩ => show 1024 * p.val + 1 * (512 * d.val + 1 * l.val) = 512 * (2 * p.val + d.val) + l.val; omega
theorem mm_at (x : FVec Ideal S1024x1024 .bf16) (w : FVec Ideal S1024x512 .bf16) (r : Fin 1024) (l : Fin 512) :
    mm x w (ix2 r l) = ∑ q : Fin 1024, x (ix2 r q) * w (ix2 q l) := by
  refine (Ideal.matmul_plain_apply (M := 1024) (K := 1024) (N := 512) none x w (constant S1024x512 .f32 0x00000000#32) r l).trans ?_
  show Ideal.ofBits .f32 0x00000000#32 + _ = _
  rw [Ideal.ofBits_zero_f32, zero_add]

/-- The product of block `k`, at a row and a column. -/
def part (p : Fin 4) (d : Fin 2) (r : Fin 1024) (l : Fin 512) (k : Fin 8) : EReal :=
  ∑ q : Fin 1024, XA (ix2 r ⟨1024 * k.val + q.val, by omega⟩) * WA (ix2 ⟨1024 * k.val + q.val, by omega⟩ ⟨512 * (2 * p.val + d.val) + l.val, by omega⟩)
theorem part_at (p : Fin 4) (d : Fin 2) (r : Fin 1024) (l : Fin 512) (k : Fin 8) :
    mm (xk (F := Ideal) XA k) (hf d (wk (F := Ideal) WA k p)) (ix2 r l) = part XA WA p d r l k := by
  rw [mm_at]
  exact Finset.sum_congr rfl fun q _ => by rw [xk_at, wk_at]
theorem acc_at (p : Fin 4) (d : Fin 2) (r : Fin 1024) (l : Fin 512) : ∀ n : ℕ,
    acc (F := Ideal) XA WA p d n (ix2 r l) = ∑ k ∈ Finset.range (n + 1), part XA WA p d r l (Fin.ofNat 8 k)
  | 0 => by
    rw [Finset.sum_range_one]
    exact part_at XA WA p d r l 0
  | n + 1 => by
    rw [Finset.sum_range_succ, ← acc_at p d r l n, ← part_at]
    rfl

/-- The block's sums, whole. -/
theorem acc_row (p : Fin 4) (d : Fin 2) (r : Fin 1024) (l : Fin 512) :
    acc (F := Ideal) XA WA p d 7 (ix2 r l) = rowCol XA WA r ⟨512 * (2 * p.val + d.val) + l.val, by omega⟩ := by
  rw [acc_at]
  unfold rowCol
  rw [← sum_blocks, Finset.sum_range]
  refine Finset.sum_congr rfl fun k _ => ?_
  rw [show Fin.ofNat 8 k.val = k from Fin.ext (Nat.mod_eq_of_lt k.isLt)]
  rfl

/-- What device `s` sends device `p`. -/
theorem blk_at (p : Dev nD) (r : Fin 1024) (l : Fin 512) :
    blk (F := Ideal) XA WA (prOf p) (dOf p) (ix2 r l) = siluK (rowCol XA WA r ⟨512 * p.val + l.val, by have h : p.val < 8 := p.isLt; omega⟩) := by
  have h : blk (F := Ideal) XA WA (prOf p) (dOf p) (ix2 r l) = siluK (acc (F := Ideal) XA WA (prOf p) (dOf p) 7 (ix2 r l)) := rfl
  rw [h, acc_row]
  refine congrArg siluK (congrArg (rowCol XA WA r) (Fin.ext ?_))
  show 512 * (2 * (p.val / 2) + p.val % 2) + l.val = 512 * p.val + l.val
  omega

/-- A device's precondition, read. -/
theorem within (h : Cert.Pre_in_clip_KernelIdeal.fn (F := Ideal) XA WA = fun _ => 1#1) (r : Fin 1024) (l : Fin 4096) :
    max (rowCol XA WA r l) (-(rowCol XA WA r l)) ≤ Ideal.ofBits .f32 0x42700000#32 := by
  have h0 := congrFun h (fun a => a.elim0)
  dsimp only [Cert.Pre_in_clip_KernelIdeal.fn] at h0
  haveI : Subsingleton Cert.Pre_in_clip_KernelIdeal.S_.Idx := ⟨fun a b => funext fun i => i.elim0⟩
  have h1 := Host.reduce_andi_all _ _ _ _ _ h0 (ix2 r l)
  have hd : Host.dotGeneral Cert.Pre_in_clip_KernelIdeal.dot_S1024x8192_S8192x4096_S1024x4096_1_0_0_1_n_n none
      (show FVec Ideal Cert.Pre_in_clip_KernelIdeal.S1024x8192 .f32 from XA) (show FVec Ideal Cert.Pre_in_clip_KernelIdeal.S8192x4096 .f32 from WA) (ix2 r l) = (rowCol XA WA r l : Ideal .f32) :=
    StackMember.dotGeneral_plain_apply (m := 1024) (k := 8192) (n := 4096) none (φ₁ := .f32) (φ₂ := .f32) XA WA r l
  have h2 : BitVec.ofBool (decide (max (rowCol XA WA r l) (-(rowCol XA WA r l)) ≤ Ideal.ofBits .f32 0x42700000#32)) = 1#1 := by
    rw [← hd]; exact h1
  by_contra hn
  rw [decide_eq_false hn] at h2
  exact absurd h2 (by decide)

end Kernel

/-! ## The result -/

section Reference
variable (X : S8192x8192.Idx → EReal) (W : S8192x4096.Idx → EReal)

/-- What the reference computes, its operations composed. -/
abbrev refVal : FVec Ideal S8192x4096 .f32 :=
  Host.divf (Host.dotGeneral Cert.ReferenceIdeal.dot_S8192x8192_S8192x4096_S8192x4096_1_0_0_1_n_n none (show FVec Ideal S8192x8192 .f32 from X) (show FVec Ideal S8192x4096 .f32 from W))
    (addf (broadcastInDim S8192x4096 ![] Cert.ReferenceIdeal.Gen.bcast_S_S8192x4096 (constant Cert.ReferenceIdeal.S_ .f32 0x3F800000#32))
      (Host.exp (Host.negf (minimumf (broadcastInDim S8192x4096 ![] Cert.ReferenceIdeal.Gen.bcast_S_S8192x4096 (id (constant Cert.ReferenceIdeal.S_ .f32 0x42700000#32)))
        (maximumf (broadcastInDim S8192x4096 ![] Cert.ReferenceIdeal.Gen.bcast_S_S8192x4096 (id (constant Cert.ReferenceIdeal.S_ .f32 0xC2700000#32)))
          (Host.dotGeneral Cert.ReferenceIdeal.dot_S8192x8192_S8192x4096_S8192x4096_1_0_0_1_n_n none (show FVec Ideal S8192x8192 .f32 from X) (show FVec Ideal S8192x4096 .f32 from W)))))))

theorem refVal_at (R : Fin 8192) (l : Fin 4096) : refVal X W (ix2 R l) = siluR (∑ i : Fin 8192, X (ix2 R i) * W (ix2 i l)) := by
  have hd : Host.dotGeneral Cert.ReferenceIdeal.dot_S8192x8192_S8192x4096_S8192x4096_1_0_0_1_n_n none (show FVec Ideal S8192x8192 .f32 from X)
      (show FVec Ideal S8192x4096 .f32 from W) (ix2 R l) = ((∑ i : Fin 8192, X (ix2 R i) * W (ix2 i l) : EReal) : Ideal .f32) :=
    StackMember.dotGeneral_plain_apply (m := 8192) (k := 8192) (n := 4096) none (φ₁ := .f32) (φ₂ := .f32) X W R l
  exact (show refVal X W (ix2 R l) = siluR (Host.dotGeneral Cert.ReferenceIdeal.dot_S8192x8192_S8192x4096_S8192x4096_1_0_0_1_n_n none (show FVec Ideal S8192x8192 .f32 from X)
      (show FVec Ideal S8192x4096 .f32 from W) (ix2 R l)) from rfl).trans (congrArg siluR hd)

/-- Device `c`'s result is its columns of the reference's. -/
theorem result_eq (xs : Dev nD → S1024x8192.Idx → EReal) (ws : Dev nD → S8192x4096.Idx → EReal)
    (hx : ∀ s, xs s = Layout.block ⟨2, ![1024, 8192]⟩ ⟨2, ![8192, 8192]⟩ 0 8 s X) (hw : ∀ s, ws s = W)
    (hp : ∀ s, Cert.Pre_in_clip_KernelIdeal.fn (F := Ideal) (xs s) (ws s) = fun _ => 1#1)
    (c : Dev nD) (f : S8192x512.Idx → EReal) (h : OutTo (F := Ideal) (fun s => blk (F := Ideal) (xs s) (ws s) (prOf c) (dOf c)) 8 f) :
    f = Layout.block ⟨2, ![8192, 512]⟩ ⟨2, ![8192, 4096]⟩ 1 8 c (refVal X W) := by
  funext y
  obtain ⟨R, l, rfl⟩ : ∃ (R : Fin 8192) (l : Fin 512), y = ix2 R l := ⟨y 0, y 1, eq_ix2 y⟩
  have hc : c.val < 8 := c.isLt
  let s : Fin 8 := ⟨R.val / 1024, by omega⟩
  let r : Fin 1024 := ⟨R.val % 1024, by omega⟩
  let L : Fin 4096 := ⟨512 * c.val + l.val, by omega⟩
  have hrow : rowsOf (F := Ideal) s f (ix2 r l) = f (ix2 R l) := by
    show f _ = f _
    refine congrArg f (funext fun a => Fin.ext ?_)
    match a with
    | ⟨0, _⟩ => show 1024 * (R.val / 1024) + 1 * (R.val % 1024) = R.val; omega
    | ⟨1, _⟩ => show 0 + 1 * l.val = l.val; omega
  have hsum : rowCol (xs s) (ws s) r L = ∑ i : Fin 8192, X (ix2 R i) * W (ix2 i L) := by
    unfold rowCol
    refine Finset.sum_congr rfl fun i _ => ?_
    rw [hw s, hx s]
    refine congrArg (· * W (ix2 i L)) (congrArg X (funext fun a => Fin.ext ?_))
    match a with
    | ⟨0, _⟩ => show R.val / 1024 * 1024 + R.val % 1024 = R.val; omega
    | ⟨1, _⟩ => rfl
  have hk : f (ix2 R l) = siluK (rowCol (xs s) (ws s) r L) :=
    hrow.symm.trans ((congrFun (h s s.isLt) (ix2 r l)).trans (blk_at (xs s) (ws s) c r l))
  rw [hk, siluK_eq _ (within (xs s) (ws s) (hp s) r L), hsum, ← refVal_at]
  show refVal X W _ = refVal X W _
  refine congrArg (refVal X W) (funext fun a => Fin.ext ?_)
  match a with
  | ⟨0, _⟩ => rfl
  | ⟨1, _⟩ => show 512 * c.val + l.val = c.val * 512 + l.val; omega

end Reference

end Cert.Pf

end
-- ==== Proof.lean ====
/-
# Eight devices' product with an all-to-all

`Cert.Proof.claim`: the kernel runs at both readings of its floats and leaves its arguments and every counter as they
were, its idealization is its own text, and over the extended reals each device's result is its columns of the
reference's. The run of the kernel is in `Proof/` (once for each reading, from the schedule to the launch); the value
of a block is in `Proof/Blocks`.
-/
module

public import proofs.«01_k».proof.Defs
public import proofs.«01_k».proof.Proof.LaunchKernel
public import proofs.«01_k».proof.Proof.LaunchKernelIdeal
public import proofs.«01_k».proof.Proof.Blocks
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_clip_KernelIdeal
public import proofs.«01_k».proof.Proof.Gen.Pre_in_clip_ReferenceIdeal
public import Idealize.ShloMosaic.Lib.Quiescent

@[expose] public section

set_option maxRecDepth 16384

noncomputable section

namespace Cert.Proof

open Idealize.ShloMosaic Idealize.ShloMosaic.TcCoe Idealize.SL.Sem

/-- The kernel's run over the hardware's floats, -/
theorem kernel : Cert.quiescent_Kernel := fun m g _ =>
  (θ_run Cert.Kernel.defs _ _).mono (fun _ h => ⟨fun c => ⟨(h.1 c).1, (h.1 c).2.1⟩, h.2⟩) (Cert.Kernel.Pf.run (F := Bits) m g)
/-- and over the extended reals. -/
theorem kernelIdeal : Cert.quiescent_KernelIdeal := fun m g _ =>
  (θ_run Cert.KernelIdeal.defs _ _).mono (fun _ h => ⟨fun c => ⟨(h.1 c).1, (h.1 c).2.1⟩, h.2⟩) (Cert.KernelIdeal.Pf.run (F := Ideal) m g)
/-- The reference's: it has no counter. -/
theorem referenceIdeal : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

/-- Over the extended reals each device's result is its columns of the reference's. -/
theorem algebraic : Cert.algebraic_KernelIdeal_ReferenceIdeal_pre_in_clip_KernelIdeal := fun m g m' g' hp hm =>
  ⟨Cert.Pf.refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨Cert.Pf.result_eq _ _ (fun s => Cert.KernelIdeal.Pf.xOf m s) (fun s => Cert.KernelIdeal.Pf.wOf m s) (fun s => (hm s).1) (fun s => (hm s).2) hp c _ (h.1 c).2.2,
        (h.1 c).1, (h.1 c).2.1⟩) (Cert.KernelIdeal.Pf.run (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Pre_in_clip_KernelIdeal.Gen.facts, Cert.Pre_in_clip_ReferenceIdeal.Gen.facts,
    kernel, kernelIdeal, fun m g _ => kernelIdeal m g trivial, referenceIdeal, fun m g _ => referenceIdeal m g trivial, trivial, algebraic⟩

end Cert.Proof

end
